-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v17) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57_0) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v57_1) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S24x512x2048 : Shape := ⟨3, ![24, 512, 2048]⟩
abbrev S2048x5632 : Shape := ⟨2, ![2048, 5632]⟩
abbrev S5632 : Shape := ⟨1, ![5632]⟩
abbrev S2048x11 : Shape := ⟨2, ![2048, 11]⟩
abbrev S11 : Shape := ⟨1, ![11]⟩
abbrev S24x512x2 : Shape := ⟨3, ![24, 512, 2]⟩
abbrev S11x2048x40 : Shape := ⟨3, ![11, 2048, 40]⟩
abbrev S11x40x5632 : Shape := ⟨3, ![11, 40, 5632]⟩
abbrev S_ : Shape := ⟨0, ![]⟩

class Facts : Prop where
  bitsLt_bf16_f32 : FTy.bits .bf16 < FTy.bits .f32
  bcast_S_S24x512x2048 : S_.BroadcastsInDim S24x512x2048 (![] : Fin 0 → Fin S24x512x2048.rank)
  reducesTo_S24x512x2048_S_d0_1_2 : S24x512x2048.ReducesTo [0, 1, 2] S_
  h_S_ : 0 < S_.numel
  bcast_S_S24x512x2 : S_.BroadcastsInDim S24x512x2 (![] : Fin 0 → Fin S24x512x2.rank)
  reducesTo_S24x512x2_S_d0_1_2 : S24x512x2.ReducesTo [0, 1, 2] S_

variable [Facts]

def fn {F : FTy → Type} [FloatOps F] (main_arg0 : FVec F S24x512x2048 .bf16) (main_arg1 : FVec F S2048x5632 .fp8e4m3) (main_arg2 : FVec F S5632 .f32) (main_arg3 : FVec F S2048x11 .bf16) (main_arg4 : FVec F S11 .f32) (main_arg5 : IVec S24x512x2 32) (main_arg6 : FVec F S11x2048x40 .bf16) (main_arg7 : FVec F S11x40x5632 .bf16) : IVec S_ 1 :=
  let main_v0 : FVec F S24x512x2048 .f32 := (extf .f32 · bitsLt_bf16_f32) main_arg0
  let main_v1 : FVec F S24x512x2048 .f32 := Host.absf main_v0
  let main_cst : FVec F S_ .f32 := constant S_ .f32 0x7F7F0000#32
  let main_v2 : FVec F S24x512x2048 .f32 := broadcastInDim S24x512x2048 ![] bcast_S_S24x512x2048 main_cst
  let main_v3 : IVec S24x512x2048 1 := cmpf .ole main_v1 main_v2
  let main_c : IVec S_ 1 := constantI S_ 1 1#1
  let main_v4 : IVec S_ 1 := (fun x v => Host.reduce IntOp.andi x v reducesTo_S24x512x2048_S_d0_1_2 h_S_) main_v3 main_c
  let main_c_0 : IVec S_ 32 := constantI S_ 32 0#32
  let main_v5 : IVec S24x512x2 32 := broadcastInDim S24x512x2 ![] bcast_S_S24x512x2 main_c_0
  let main_v6 : IVec S24x512x2 1 := cmpi .sge main_arg5 main_v5
  let main_c_1 : IVec S_ 32 := constantI S_ 32 11#32
  let main_v7 : IVec S24x512x2 32 := broadcastInDim S24x512x2 ![] bcast_S_S24x512x2 main_c_1
  let main_v8 : IVec S24x512x2 1 := cmpi .slt main_arg5 main_v7
  let main_v9 : IVec S24x512x2 1 := andi main_v6 main_v8
  let main_c_2 : IVec S_ 1 := constantI S_ 1 1#1
  let main_v10 : IVec S_ 1 := (fun x v => Host.reduce IntOp.andi x v reducesTo_S24x512x2_S_d0_1_2 h_S_) main_v9 main_c_2
  let main_v11 : IVec S_ 1 := andi main_v4 main_v10
  main_v11
-- ==== Kernel.lean ====
abbrev S24x512x2048 : Shape := ⟨3, ![24, 512, 2048]⟩
abbrev S2048x5632 : Shape := ⟨2, ![2048, 5632]⟩
abbrev S5632 : Shape := ⟨1, ![5632]⟩
abbrev S2048x11 : Shape := ⟨2, ![2048, 11]⟩
abbrev S11 : Shape := ⟨1, ![11]⟩
abbrev S24x512x2 : Shape := ⟨3, ![24, 512, 2]⟩
abbrev S11x2048x40 : Shape := ⟨3, ![11, 2048, 40]⟩
abbrev S11x40x5632 : Shape := ⟨3, ![11, 40, 5632]⟩
abbrev S2048x11x40 : Shape := ⟨3, ![2048, 11, 40]⟩
abbrev S_ : Shape := ⟨0, ![]⟩
abbrev S2048x12x40 : Shape := ⟨3, ![2048, 12, 40]⟩
abbrev S2048x4x120 : Shape := ⟨3, ![2048, 4, 120]⟩
abbrev S2048x4x128 : Shape := ⟨3, ![2048, 4, 128]⟩
abbrev S2048x512 : Shape := ⟨2, ![2048, 512]⟩
abbrev S1 : Shape := ⟨1, ![1]⟩
abbrev S12x40x5632 : Shape := ⟨3, ![12, 40, 5632]⟩
abbrev S4x120x5632 : Shape := ⟨3, ![4, 120, 5632]⟩
abbrev S4x128x5632 : Shape := ⟨3, ![4, 128, 5632]⟩
abbrev S512x5632 : Shape := ⟨2, ![512, 5632]⟩
abbrev S16 : Shape := ⟨1, ![16]⟩
abbrev S16x1 : Shape := ⟨2, ![16, 1]⟩
abbrev S24x2x512 : Shape := ⟨3, ![24, 2, 512]⟩
abbrev S1x5632 : Shape := ⟨2, ![1, 5632]⟩
abbrev S24x512x5632 : Shape := ⟨3, ![24, 512, 5632]⟩
abbrev S24x1x512 : Shape := ⟨3, ![24, 1, 512]⟩
abbrev S1x512x2048 : Shape := ⟨3, ![1, 512, 2048]⟩
abbrev S1x2x512 : Shape := ⟨3, ![1, 2, 512]⟩
abbrev S1x512x5632 : Shape := ⟨3, ![1, 512, 5632]⟩
abbrev S1x1x512 : Shape := ⟨3, ![1, 1, 512]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S512x128 : Shape := ⟨2, ![512, 128]⟩
abbrev S128x512 : Shape := ⟨2, ![128, 512]⟩
abbrev S16x512 : Shape := ⟨2, ![16, 512]⟩
abbrev S4x512 : Shape := ⟨2, ![4, 512]⟩
abbrev S8x512 : Shape := ⟨2, ![8, 512]⟩
abbrev S512x8 : Shape := ⟨2, ![512, 8]⟩
abbrev S1x512x512 : Shape := ⟨3, ![1, 512, 512]⟩
abbrev S24x512 : Shape := ⟨2, ![24, 512]⟩

abbrev nBuf : Space → Nat
  | .hbm => 40
  | .vmem => 17
  | .smem => 0
  | _ => 0

abbrev bufTy : (tb : Table) → Fin (tcTables nBuf tb) → BufTy
  | .hbm, ⟨0, _⟩ => ⟨S24x512x2048, .bf16⟩
  | .hbm, ⟨1, _⟩ => ⟨S2048x5632, .fp8e4m3⟩
  | .hbm, ⟨2, _⟩ => ⟨S5632, .f32⟩
  | .hbm, ⟨3, _⟩ => ⟨S2048x11, .bf16⟩
  | .hbm, ⟨4, _⟩ => ⟨S11, .f32⟩
  | .hbm, ⟨5, _⟩ => ⟨S24x512x2, .i32⟩
  | .hbm, ⟨6, _⟩ => ⟨S11x2048x40, .bf16⟩
  | .hbm, ⟨7, _⟩ => ⟨S11x40x5632, .bf16⟩
  | .hbm, ⟨8, _⟩ => ⟨S2048x11x40, .bf16⟩
  | .hbm, ⟨9, _⟩ => ⟨S_, .i32⟩
  | .hbm, ⟨10, _⟩ => ⟨S_, .bf16⟩
  | .hbm, ⟨11, _⟩ => ⟨S2048x12x40, .bf16⟩
  | .hbm, ⟨12, _⟩ => ⟨S2048x4x120, .bf16⟩
  | .hbm, ⟨13, _⟩ => ⟨S_, .i32⟩
  | .hbm, ⟨14, _⟩ => ⟨S_, .bf16⟩
  | .hbm, ⟨15, _⟩ => ⟨S2048x4x128, .bf16⟩
  | .hbm, ⟨16, _⟩ => ⟨S2048x512, .bf16⟩
  | .hbm, ⟨17, _⟩ => ⟨S_, .i32⟩
  | .hbm, ⟨18, _⟩ => ⟨S1, .i32⟩
  | .hbm, ⟨19, _⟩ => ⟨S2048x512, .bf16⟩
  | .hbm, ⟨20, _⟩ => ⟨S_, .i32⟩
  | .hbm, ⟨21, _⟩ => ⟨S_, .bf16⟩
  | .hbm, ⟨22, _⟩ => ⟨S12x40x5632, .bf16⟩
  | .hbm, ⟨23, _⟩ => ⟨S4x120x5632, .bf16⟩
  | .hbm, ⟨24, _⟩ => ⟨S_, .i32⟩
  | .hbm, ⟨25, _⟩ => ⟨S_, .bf16⟩
  | .hbm, ⟨26, _⟩ => ⟨S4x128x5632, .bf16⟩
  | .hbm, ⟨27, _⟩ => ⟨S512x5632, .bf16⟩
  | .hbm, ⟨28, _⟩ => ⟨S_, .i32⟩
  | .hbm, ⟨29, _⟩ => ⟨S_, .f32⟩
  | .hbm, ⟨30, _⟩ => ⟨S16, .f32⟩
  | .hbm, ⟨31, _⟩ => ⟨S16x1, .f32⟩
  | .hbm, ⟨32, _⟩ => ⟨S24x2x512, .i32⟩
  | .hbm, ⟨33, _⟩ => ⟨S1x5632, .f32⟩
  | .hbm, ⟨34, _⟩ => ⟨S24x512x5632, .bf16⟩
  | .hbm, ⟨35, _⟩ => ⟨S24x2x512, .f32⟩
  | .hbm, ⟨36, _⟩ => ⟨S24x512x2048, .fp8e4m3⟩
  | .hbm, ⟨37, _⟩ => ⟨S24x1x512, .f32⟩
  | .hbm, ⟨38, _⟩ => ⟨S24x512x2, .f32⟩
  | .hbm, ⟨39, _⟩ => ⟨S24x512, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x5632, .fp8e4m3⟩
  | .local _ .vmem, ⟨3, _⟩ => ⟨S1x5632, .f32⟩
  | .local _ .vmem, ⟨4, _⟩ => ⟨S16x1, .f32⟩
  | .local _ .vmem, ⟨5, _⟩ => ⟨S1x2x512, .i32⟩
  | .local _ .vmem, ⟨6, _⟩ => ⟨S1x2x512, .i32⟩
  | .local _ .vmem, ⟨7, _⟩ => ⟨S2048x512, .bf16⟩
  | .local _ .vmem, ⟨8, _⟩ => ⟨S512x5632, .bf16⟩
  | .local _ .vmem, ⟨9, _⟩ => ⟨S1x512x5632, .bf16⟩
  | .local _ .vmem, ⟨10, _⟩ => ⟨S1x512x5632, .bf16⟩
  | .local _ .vmem, ⟨11, _⟩ => ⟨S1x2x512, .f32⟩
  | .local _ .vmem, ⟨12, _⟩ => ⟨S1x2x512, .f32⟩
  | .local _ .vmem, ⟨13, _⟩ => ⟨S1x512x2048, .fp8e4m3⟩
  | .local _ .vmem, ⟨14, _⟩ => ⟨S1x512x2048, .fp8e4m3⟩
  | .local _ .vmem, ⟨15, _⟩ => ⟨S1x1x512, .f32⟩
  | .local _ .vmem, ⟨16, _⟩ => ⟨S1x1x512, .f32⟩
  | _, _ => ⟨S24x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_call2_v0 : Ref sig .tc := ⟨.hbm, 21, rfl⟩
abbrev main_v7 : Ref sig .tc := ⟨.hbm, 22, rfl⟩
abbrev main_v8 : Ref sig .tc := ⟨.hbm, 23, rfl⟩
abbrev main_c_3 : Ref sig .tc := ⟨.hbm, 24, rfl⟩
abbrev main_call3_v0 : Ref sig .tc := ⟨.hbm, 25, rfl⟩
abbrev main_v9 : Ref sig .tc := ⟨.hbm, 26, rfl⟩
abbrev main_v10 : Ref sig .tc := ⟨.hbm, 27, rfl⟩
abbrev main_c_4 : Ref sig .tc := ⟨.hbm, 28, rfl⟩
abbrev main_call4_v0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15_0 : Ref sig .tc := ⟨.hbm, 34, rfl⟩
abbrev main_v15_1 : Ref sig .tc := ⟨.hbm, 35, rfl⟩
abbrev main_v15_2 : Ref sig .tc := ⟨.hbm, 36, rfl⟩
abbrev main_v15_3 : Ref sig .tc := ⟨.hbm, 37, rfl⟩
abbrev main_v16 : Ref sig .tc := ⟨.hbm, 38, rfl⟩
abbrev main_v17 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x5632 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x2048 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S24x512x2048 : Shape := ⟨3, ![24, 512, 2048]⟩
abbrev S2048x5632 : Shape := ⟨2, ![2048, 5632]⟩
abbrev S5632 : Shape := ⟨1, ![5632]⟩
abbrev S2048x11 : Shape := ⟨2, ![2048, 11]⟩
abbrev S11 : Shape := ⟨1, ![11]⟩
abbrev S24x512x2 : Shape := ⟨3, ![24, 512, 2]⟩
abbrev S11x2048x40 : Shape := ⟨3, ![11, 2048, 40]⟩
abbrev S11x40x5632 : Shape := ⟨3, ![11, 40, 5632]⟩
abbrev S_ : Shape := ⟨0, ![]⟩
abbrev S24x512 : Shape := ⟨2, ![24, 512]⟩
abbrev S24x512x1 : Shape := ⟨3, ![24, 512, 1]⟩
abbrev S24x512x11 : Shape := ⟨3, ![24, 512, 11]⟩
abbrev S1x1x11 : Shape := ⟨3, ![1, 1, 11]⟩
abbrev S24x512x2x1 : Shape := ⟨4, ![24, 512, 2, 1]⟩
abbrev S1 : Shape := ⟨1, ![1]⟩
abbrev S1x1x1x1 : Shape := ⟨4, ![1, 1, 1, 1]⟩
abbrev S1x1x1x11 : Shape := ⟨4, ![1, 1, 1, 11]⟩
abbrev S24x512x2x11 : Shape := ⟨4, ![24, 512, 2, 11]⟩
abbrev S24x512x11x40 : Shape := ⟨4, ![24, 512, 11, 40]⟩
abbrev S24x512x11x1 : Shape := ⟨4, ![24, 512, 11, 1]⟩
abbrev S24x512x5632 : Shape := ⟨3, ![24, 512, 5632]⟩
abbrev S1x1x5632 : Shape := ⟨3, ![1, 1, 5632]⟩

abbrev nBuf : Space → Nat
  | .hbm => 116
  | .vmem => 7
  | .smem => 0
  | _ => 0

abbrev bufTy : (tb : Table) → Fin (tcTables nBuf tb) → BufTy
  | .hbm, ⟨0, _⟩ => ⟨S24x512x2048, .bf16⟩
  | .hbm, ⟨1, _⟩ => ⟨S2048x5632, .fp8e4m3⟩
  | .hbm, ⟨2, _⟩ => ⟨S5632, .f32⟩
  | .hbm, ⟨3, _⟩ => ⟨S2048x11, .bf16⟩
  | .hbm, ⟨4, _⟩ => ⟨S11, .f32⟩
  | .hbm, ⟨5, _⟩ => ⟨S24x512x2, .i32⟩
  | .hbm, ⟨6, _⟩ => ⟨S11x2048x40, .bf16⟩
  | .hbm, ⟨7, _⟩ => ⟨S11x40x5632, .bf16⟩
  | .hbm, ⟨8, _⟩ => ⟨S24x512x2048, .f32⟩
  | .hbm, ⟨9, _⟩ => ⟨S24x512x2048, .f32⟩
  | .hbm, ⟨10, _⟩ => ⟨S_, .f32⟩
  | .hbm, ⟨11, _⟩ => ⟨S24x512, .f32⟩
  | .hbm, ⟨12, _⟩ => ⟨S_, .f32⟩
  | .hbm, ⟨13, _⟩ => ⟨S24x512, .f32⟩
  | .hbm, ⟨14, _⟩ => ⟨S24x512, .f32⟩
  | .hbm, ⟨15, _⟩ => ⟨S24x512, .f32⟩
  | .hbm, ⟨16, _⟩ => ⟨S_, .f32⟩
  | .hbm, ⟨17, _⟩ => ⟨S24x512, .f32⟩
  | .hbm, ⟨18, _⟩ => ⟨S24x512, .f32⟩
  | .hbm, ⟨19, _⟩ => ⟨S24x512, .f32⟩
  | .hbm, ⟨20, _⟩ => ⟨S_, .f32⟩
  | .hbm, ⟨21, _⟩ => ⟨S24x512, .f32⟩
  | .hbm, ⟨22, _⟩ => ⟨S24x512, .i1⟩
  | .hbm, ⟨23, _⟩ => ⟨S24x512, .f32⟩
  | .hbm, ⟨24, _⟩ => ⟨S_, .f32⟩
  | .hbm, ⟨25, _⟩ => ⟨S24x512, .f32⟩
  | .hbm, ⟨26, _⟩ => ⟨S24x512, .f32⟩
  | .hbm, ⟨27, _⟩ => ⟨S_, .f32⟩
  | .hbm, ⟨28, _⟩ => ⟨S_, .f32⟩
  | .hbm, ⟨29, _⟩ => ⟨S24x512, .f32⟩
  | .hbm, ⟨30, _⟩ => ⟨S24x512, .f32⟩
  | .hbm, ⟨31, _⟩ => ⟨S_, .f32⟩
  | .hbm, ⟨32, _⟩ => ⟨S24x512, .f32⟩
  | .hbm, ⟨33, _⟩ => ⟨S24x512, .f32⟩
  | .hbm, ⟨34, _⟩ => ⟨S24x512, .f32⟩
  | .hbm, ⟨35, _⟩ => ⟨S_, .f32⟩
  | .hbm, ⟨36, _⟩ => ⟨S24x512, .f32⟩
  | .hbm, ⟨37, _⟩ => ⟨S24x512, .f32⟩
  | .hbm, ⟨38, _⟩ => ⟨S24x512x1, .f32⟩
  | .hbm, ⟨39, _⟩ => ⟨S24x512x2048, .f32⟩
  | .hbm, ⟨40, _⟩ => ⟨S24x512x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S24x512x2048, .f32⟩
  | .hbm, ⟨45, _⟩ => ⟨S24x512x2048, .f32⟩
  | .hbm, ⟨46, _⟩ => ⟨S_, .f32⟩
  | .hbm, ⟨47, _⟩ => ⟨S24x512x2048, .f32⟩
  | .hbm, ⟨48, _⟩ => ⟨S24x512x2048, .f32⟩
  | .hbm, ⟨49, _⟩ => ⟨S24x512x11, .f32⟩
  | .hbm, ⟨50, _⟩ => ⟨S1x1x11, .f32⟩
  | .hbm, ⟨51, _⟩ => ⟨S24x512x11, .f32⟩
  | .hbm, ⟨52, _⟩ => ⟨S24x512x11, .f32⟩
  | .hbm, ⟨53, _⟩ => ⟨S_, .f32⟩
  | .hbm, ⟨54, _⟩ => ⟨S24x512, .f32⟩
  | .hbm, ⟨55, _⟩ => ⟨S_, .f32⟩
  | .hbm, ⟨56, _⟩ => ⟨S24x512, .f32⟩
  | .hbm, ⟨57, _⟩ => ⟨S24x512, .f32⟩
  | .hbm, ⟨58, _⟩ => ⟨S24x512x1, .f32⟩
  | .hbm, ⟨59, _⟩ => ⟨S24x512x11, .f32⟩
  | .hbm, ⟨60, _⟩ => ⟨S24x512x11, .f32⟩
  | .hbm, ⟨61, _⟩ => ⟨S24x512x11, .f32⟩
  | .hbm, ⟨62, _⟩ => ⟨S_, .f32⟩
  | .hbm, ⟨63, _⟩ => ⟨S24x512, .f32⟩
  | .hbm, ⟨64, _⟩ => ⟨S24x512x1, .f32⟩
  | .hbm, ⟨65, _⟩ => ⟨S24x512x11, .f32⟩
  | .hbm, ⟨66, _⟩ => ⟨S24x512x11, .f32⟩
  | .hbm, ⟨67, _⟩ => ⟨S_, .i32⟩
  | .hbm, ⟨68, _⟩ => ⟨S24x512x2, .i32⟩
  | .hbm, ⟨69, _⟩ => ⟨S24x512x2, .i1⟩
  | .hbm, ⟨70, _⟩ => ⟨S_, .i32⟩
  | .hbm, ⟨71, _⟩ => ⟨S24x512x2, .i32⟩
  | .hbm, ⟨72, _⟩ => ⟨S24x512x2, .i32⟩
  | .hbm, ⟨73, _⟩ => ⟨S24x512x2, .i32⟩
  | .hbm, ⟨74, _⟩ => ⟨S24x512x2x1, .i32⟩
  | .hbm, ⟨75, _⟩ => ⟨S1, .i32⟩
  | .hbm, ⟨76, _⟩ => ⟨S_, .i32⟩
  | .hbm, ⟨77, _⟩ => ⟨S24x512x2x1, .i32⟩
  | .hbm, ⟨78, _⟩ => ⟨S24x512x2x1, .i1⟩
  | .hbm, ⟨79, _⟩ => ⟨S1x1x1x1, .i32⟩
  | .hbm, ⟨80, _⟩ => ⟨S24x512x2x1, .i32⟩
  | .hbm, ⟨81, _⟩ => ⟨S24x512x2x1, .i1⟩
  | .hbm, ⟨82, _⟩ => ⟨S24x512x2x1, .i1⟩
  | .hbm, ⟨83, _⟩ => ⟨S_, .i1⟩
  | .hbm, ⟨84, _⟩ => ⟨S24x512x2, .i1⟩
  | .hbm, ⟨85, _⟩ => ⟨S24x512x2, .f32⟩
  | .hbm, ⟨86, _⟩ => ⟨S_, .f32⟩
  | .hbm, ⟨87, _⟩ => ⟨S24x512x2, .f32⟩
  | .hbm, ⟨88, _⟩ => ⟨S24x512x2, .f32⟩
  | .hbm, ⟨89, _⟩ => ⟨S_, .f32⟩
  | .hbm, ⟨90, _⟩ => ⟨S24x512, .f32⟩
  | .hbm, ⟨91, _⟩ => ⟨S24x512x1, .f32⟩
  | .hbm, ⟨92, _⟩ => ⟨S24x512x2, .f32⟩
  | .hbm, ⟨93, _⟩ => ⟨S24x512x2, .f32⟩
  | .hbm, ⟨94, _⟩ => ⟨S24x512x2x1, .i32⟩
  | .hbm, ⟨95, _⟩ => ⟨S1x1x1x11, .i32⟩
  | .hbm, ⟨96, _⟩ => ⟨S24x512x2x11, .i32⟩
  | .hbm, ⟨97, _⟩ => ⟨S24x512x2x11, .i32⟩
  | .hbm, ⟨98, _⟩ => ⟨S24x512x2x11, .i1⟩
  | .hbm, ⟨99, _⟩ => ⟨S24x512x2x11, .f32⟩
  | .hbm, ⟨100, _⟩ => ⟨S24x512x2x1, .f32⟩
  | .hbm, ⟨101, _⟩ => ⟨S24x512x2x11, .f32⟩
  | .hbm, ⟨102, _⟩ => ⟨S24x512x2x11, .f32⟩
  | .hbm, ⟨103, _⟩ => ⟨S_, .f32⟩
  | .hbm, ⟨104, _⟩ => ⟨S24x512x11, .f32⟩
  | .hbm, ⟨105, _⟩ => ⟨S24x512x11x40, .f32⟩
  | .hbm, ⟨106, _⟩ => ⟨S_, .f32⟩
  | .hbm, ⟨107, _⟩ => ⟨S24x512x11, .f32⟩
  | .hbm, ⟨108, _⟩ => ⟨S24x512x11, .f32⟩
  | .hbm, ⟨109, _⟩ => ⟨S24x512x11x1, .f32⟩
  | .hbm, ⟨110, _⟩ => ⟨S24x512x11x40, .f32⟩
  | .hbm, ⟨111, _⟩ => ⟨S24x512x11x40, .f32⟩
  | .hbm, ⟨112, _⟩ => ⟨S24x512x11x40, .bf16⟩
  | .hbm, ⟨113, _⟩ => ⟨S24x512x5632, .f32⟩
  | .hbm, ⟨114, _⟩ => ⟨S24x512x5632, .bf16⟩
  | .hbm, ⟨115, _⟩ => ⟨S24x512x2048, .fp8e4m3⟩
  | .local _ .vmem, ⟨0, _⟩ => ⟨S24x512x2048, .f32⟩
  | .local _ .vmem, ⟨1, _⟩ => ⟨S24x512, .f32⟩
  | .local _ .vmem, ⟨2, _⟩ => ⟨S2048x5632, .fp8e4m3⟩
  | .local _ .vmem, ⟨3, _⟩ => ⟨S5632, .f32⟩
  | .local _ .vmem, ⟨4, _⟩ => ⟨S24x512x5632, .f32⟩
  | .local _ .vmem, ⟨5, _⟩ => ⟨S24x512x5632, .bf16⟩
  | .local _ .vmem, ⟨6, _⟩ => ⟨S24x512x2048, .fp8e4m3⟩
  | _, _ => ⟨S24x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_cst_5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_6 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_7 : Ref sig .tc := ⟨.hbm, 41, rfl⟩
abbrev main_cst_8 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_9 : Ref sig .tc := ⟨.hbm, 53, rfl⟩
abbrev main_v28 : Ref sig .tc := ⟨.hbm, 54, rfl⟩
abbrev main_cst_10 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_11 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_cst : Ref sig .tc := ⟨.hbm, 86, rfl⟩
abbrev main_call2_v14 : Ref sig .tc := ⟨.hbm, 87, rfl⟩
abbrev main_v39 : Ref sig .tc := ⟨.hbm, 88, rfl⟩
abbrev main_cst_12 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_cst_13 : Ref sig .tc := ⟨.hbm, 103, rfl⟩
abbrev main_v48 : Ref sig .tc := ⟨.hbm, 104, rfl⟩
abbrev main_v49 : Ref sig .tc := ⟨.hbm, 105, rfl⟩
abbrev main_cst_14 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57_0 : Ref sig .tc := ⟨.hbm, 114, rfl⟩
abbrev main_v57_1 : Ref sig .tc := ⟨.hbm, 115, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24x512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x5632 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x512x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x512x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x512x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Exponent.lean ====
/- The power of two that scales one row, as each program finds it: the kernel by a binary search over the floats of zero
   fraction, the reference by a logarithm. Nothing here mentions either program. -/
module

public import Idealize.ShloMosaic.PureOps.Ideal.Laws
public import Mathlib.Analysis.SpecialFunctions.Pow.Real
public import Mathlib.Analysis.SpecialFunctions.Log.Basic

@[expose] public section

noncomputable section

namespace Cert.Mix

open Idealize.ShloMosaic

/-! ## The floats of zero fraction -/

/-- The float32 whose exponent field is `n` and whose sign and fraction are zero. -/
def gridPoint (n : ℕ) : EReal := Ideal.ofBits .f32 (BitVec.ofNat 32 (n * 2 ^ 23))

theorem gridPoint_zero : gridPoint 0 = 0 := by simp [gridPoint, Ideal.ofBits, Ideal.ieee]

theorem gridPoint_255 : gridPoint 255 = ⊤ := by
  simp [gridPoint, Ideal.ofBits, Ideal.ieee]

/-- Field `n` of a normal number denotes `2 ^ (n - 127)`. -/
theorem gridPoint_normal (n : ℕ) (h1 : 1 ≤ n) (h2 : n ≤ 254) : gridPoint n = (((2 : ℝ) ^ ((n : ℤ) - 127) : ℝ) : EReal) := by
  have hx : (BitVec.ofNat 32 (n * 2 ^ 23)).toNat = n * 2 ^ 23 := by
    rw [BitVec.toNat_ofNat]; exact Nat.mod_eq_of_lt (by omega)
  have hneg : ((BitVec.ofNat 32 (n * 2 ^ 23)).extractLsb' 31 1 == 1#1) = false := by
    rw [beq_eq_false_iff_ne]
    intro h
    have := congrArg BitVec.toNat h
    rw [BitVec.extractLsb'_toNat, hx, Nat.shiftRight_eq_div_pow] at this
    simp at this
    omega
  have hex : ((BitVec.ofNat 32 (n * 2 ^ 23)).extractLsb' 23 8).toNat = n := by
    rw [BitVec.extractLsb'_toNat, hx, Nat.shiftRight_eq_div_pow]
    omega
  have hfr : ((BitVec.ofNat 32 (n * 2 ^ 23)).extractLsb' 0 23).toNat = 0 := by
    rw [BitVec.extractLsb'_toNat, hx, Nat.shiftRight_eq_div_pow]
    omega
  unfold gridPoint Ideal.ofBits Ideal.ieee
  simp only [hex, hfr, show (8 + 23 : ℕ) = 31 from rfl, hneg]
  rw [if_neg (by omega), if_neg (by omega)]
  congr 1
  have : (n : ℤ) - 127 = 23 + ((n : ℤ) - (2 ^ (8 - 1) - 1) - 23) := by ring
  rw [this, zpow_add₀ (by norm_num)]
  norm_num

theorem ofBits_two : Ideal.ofBits .f32 0x40000000#32 = ((2 : ℝ) : EReal) := by
  have := gridPoint_normal 128 (by norm_num) (by norm_num)
  unfold gridPoint at this
  rw [show (0x40000000#32 : BitVec 32) = BitVec.ofNat 32 (128 * 2 ^ 23) from rfl, this]
  norm_num

theorem ofBits_one : Ideal.ofBits .f32 0x3F800000#32 = ((1 : ℝ) : EReal) := by
  have := gridPoint_normal 127 (by norm_num) (by norm_num)
  unfold gridPoint at this
  rw [show (0x3F800000#32 : BitVec 32) = BitVec.ofNat 32 (127 * 2 ^ 23) from rfl, this]
  norm_num

theorem ofBits_tiny : Ideal.ofBits .f32 0x00800000#32 = gridPoint 1 := rfl

/-- The factor 1/448 as float32 spells it: positive and below one. -/
theorem ofBits_factor : ∃ r : ℝ, 0 < r ∧ r < 1 / 256 ∧ Ideal.ofBits .f32 0x3B124925#32 = (r : EReal) := by
  refine ⟨_, ?_, ?_, by simp [Ideal.ofBits, Ideal.ieee]; rfl⟩ <;> norm_num

/-- The greatest finite bfloat16, as float32 spells it. -/
theorem ofBits_greatest : ∃ r : ℝ, 0 < r ∧ r < 2 ^ 128 ∧ Ideal.ofBits .f32 0x7F7F0000#32 = (r : EReal) := by
  refine ⟨_, ?_, ?_, by simp [Ideal.ofBits, Ideal.ieee]; rfl⟩ <;> norm_num

/-! ## The binary search -/

/-- One step of the search, on words: `w + step` where its float is at most `t`, else `w`. -/
def searchStep (t : EReal) (w step : BitVec 32) : BitVec 32 :=
  Scalar.select (FloatOps.cmpf (F := Ideal) (φ := .f32) .olt t
    (FloatOps.ofBits (F := Ideal) .f32 (IntOp.shli .vector (IntOp.addi w step) 23#32))) w (IntOp.addi w step)

/-- The same step, on naturals. -/
def searchNat (t : EReal) (b step : ℕ) : ℕ := if t < gridPoint (b + step) then b else b + step

theorem shl23 (n : ℕ) : IntOp.shli .vector (BitVec.ofNat 32 n) 23#32 = BitVec.ofNat 32 (n * 2 ^ 23) := by
  unfold IntOp.shli
  rw [if_pos (by decide)]
  apply BitVec.eq_of_toNat_eq
  show (BitVec.ofNat 32 n <<< (23#32).toNat).toNat = _
  rw [show (23#32).toNat = 23 from rfl, BitVec.toNat_shiftLeft, BitVec.toNat_ofNat, BitVec.toNat_ofNat, Nat.shiftLeft_eq,
    Nat.mod_mul_mod]

theorem addi_ofNat (b k : ℕ) : IntOp.addi (BitVec.ofNat 32 b) (BitVec.ofNat 32 k) = BitVec.ofNat 32 (b + k) := by
  unfold IntOp.addi
  rw [BitVec.ofNat_add]

theorem searchStep_ofNat (t : EReal) (b k : ℕ) :
    searchStep t (BitVec.ofNat 32 b) (BitVec.ofNat 32 k) = BitVec.ofNat 32 (searchNat t b k) := by
  unfold searchStep searchNat
  rw [addi_ofNat, shl23]
  show Scalar.select (BitVec.ofBool (decide (t < gridPoint (b + k)))) _ _ = _
  unfold Scalar.select
  by_cases h : t < gridPoint (b + k) <;> simp [h]

/-- The eight steps of the search, on naturals. -/
def field (t : EReal) : ℕ :=
  searchNat t (searchNat t (searchNat t (searchNat t (searchNat t (searchNat t (searchNat t (searchNat t 0 128) 64) 32) 16) 8) 4) 2) 1

/-- The eight steps of the search, on words. -/
def fieldWord (t : EReal) : BitVec 32 :=
  searchStep t (searchStep t (searchStep t (searchStep t (searchStep t (searchStep t (searchStep t (searchStep t 0#32 128#32)
    64#32) 32#32) 16#32) 8#32) 4#32) 2#32) 1#32

theorem fieldWord_eq (t : EReal) : fieldWord t = BitVec.ofNat 32 (field t) := by
  unfold fieldWord field
  simp only [searchStep_ofNat]

/-- What a step keeps: the float at the lower end is at most `t`, the one at the upper end above it (or the end is 256). -/
theorem searchNat_keeps (t : EReal) (b k : ℕ) (h : gridPoint b ≤ t ∧ (b + 2 * k = 256 ∨ t < gridPoint (b + 2 * k)) ∧ b + 2 * k ≤ 256) :
    gridPoint (searchNat t b k) ≤ t ∧ (searchNat t b k + k = 256 ∨ t < gridPoint (searchNat t b k + k)) ∧ searchNat t b k + k ≤ 256 := by
  obtain ⟨h1, h2, h3⟩ := h
  unfold searchNat
  split
  · next hlt => exact ⟨h1, Or.inr hlt, by omega⟩
  · next hge =>
    refine ⟨not_lt.mp hge, ?_, by omega⟩
    rw [show b + k + k = b + 2 * k by ring]; exact h2

/-- The search finds the field of `t`: the float of that field is at most `t`, the next one above it. -/
theorem field_spec (t : EReal) (h0 : 0 ≤ t) (h1 : t < ⊤) :
    gridPoint (field t) ≤ t ∧ t < gridPoint (field t + 1) ∧ field t ≤ 254 := by
  have k8 := searchNat_keeps t 0 128 ⟨by rw [gridPoint_zero]; exact h0, Or.inl rfl, by norm_num⟩
  have k7 := searchNat_keeps t _ 64 k8
  have k6 := searchNat_keeps t _ 32 k7
  have k5 := searchNat_keeps t _ 16 k6
  have k4 := searchNat_keeps t _ 8 k5
  have k3 := searchNat_keeps t _ 4 k4
  have k2 := searchNat_keeps t _ 2 k3
  have k1 := searchNat_keeps t _ 1 k2
  change gridPoint (field t) ≤ t ∧ (field t + 1 = 256 ∨ t < gridPoint (field t + 1)) ∧ field t + 1 ≤ 256 at k1
  obtain ⟨a, b, c⟩ := k1
  have hne : field t ≠ 255 := fun h => by
    rw [h, gridPoint_255] at a
    exact absurd h1 (not_lt.mpr a)
  exact ⟨a, b.resolve_left (by omega), by omega⟩

/-! ## The two scales -/

/-- The exponent as the kernel forms it from the field. -/
def exponentWord (w : BitVec 32) : BitVec 32 := Scalar.select (IntOp.cmpi .eq w 0#32) 0#32 (IntOp.subi w 126#32)

/-- The kernel's scale: the float of field `e + 127`. -/
def kernelScale (t : EReal) : EReal :=
  FloatOps.ofBits (F := Ideal) .f32 (IntOp.shli .vector (IntOp.addi (exponentWord (fieldWord t)) 127#32) 23#32)

/-- The kernel's inverse scale: the float of field `127 - e`. -/
def kernelInverse (t : EReal) : EReal :=
  FloatOps.ofBits (F := Ideal) .f32 (IntOp.shli .vector (IntOp.subi 127#32 (exponentWord (fieldWord t))) 23#32)

/-- The exponent as the reference forms it: the floor of the logarithm to base two, plus one; zero below the least normal number. -/
def exponentOf (t : EReal) : EReal :=
  Scalar.select (FloatOps.cmpf (F := Ideal) (φ := .f32) .olt t (FloatOps.ofBits (F := Ideal) .f32 0x00800000#32))
    (FloatOps.ofBits (F := Ideal) .f32 0x00000000#32)
    (FloatOps.addf (F := Ideal) (φ := .f32) (FloatOps.hostUnary (F := Ideal) (φ := .f32) .floor
      (FloatOps.hostDivf (F := Ideal) (φ := .f32) (FloatOps.hostUnary (F := Ideal) (φ := .f32) .log t)
        (FloatOps.hostUnary (F := Ideal) (φ := .f32) .log (FloatOps.ofBits (F := Ideal) .f32 0x40000000#32))))
      (FloatOps.ofBits (F := Ideal) .f32 0x3F800000#32))

/-- The reference's scale: two to the exponent. -/
def scaleOf (t : EReal) : EReal :=
  FloatOps.hostPowf (F := Ideal) (φ := .f32) (FloatOps.ofBits (F := Ideal) .f32 0x40000000#32) (exponentOf t)

/-- The reference's inverse scale: two to the exponent's negative. -/
def inverseOf (t : EReal) : EReal :=
  FloatOps.hostPowf (F := Ideal) (φ := .f32) (FloatOps.ofBits (F := Ideal) .f32 0x40000000#32)
    (FloatOps.hostNegf (F := Ideal) (φ := .f32) (exponentOf t))

theorem pow_two_coe (z : ℤ) : Ideal.pow ((2 : ℝ) : EReal) (((z : ℝ)) : EReal) = (((2 : ℝ) ^ z : ℝ) : EReal) := by
  show ((Real.rpow 2 (z : ℝ) : ℝ) : EReal) = _
  congr 1
  exact Real.rpow_intCast 2 z

/-- The reference's exponent, from the field that the search finds. -/
theorem exponentOf_eq (t : EReal) (h0 : 0 ≤ t) (h1 : t < ((2 ^ 126 : ℝ) : EReal)) :
    field t ≤ 252 ∧ exponentOf t = (((if field t = 0 then 0 else (field t : ℤ) - 126 : ℤ) : ℝ) : EReal) := by
  obtain ⟨ha, hb, hc⟩ := field_spec t h0 (h1.trans (EReal.coe_lt_top _))
  lift t to ℝ using ⟨(h1.trans (EReal.coe_lt_top _)).ne, (lt_of_lt_of_le (by exact EReal.bot_lt_zero) h0).ne'⟩
  have h252 : field (t : EReal) ≤ 252 := by
    by_contra hcon
    have hp := gridPoint_normal (field (t : EReal)) (by omega) hc
    rw [hp] at ha
    have := lt_of_le_of_lt ha h1
    rw [EReal.coe_lt_coe_iff] at this
    have h3 : (2 : ℝ) ^ (126 : ℤ) ≤ (2 : ℝ) ^ ((field (t : EReal) : ℤ) - 127) := zpow_le_zpow_right₀ (by norm_num) (by omega)
    have h4 : (2 : ℝ) ^ (126 : ℤ) = 2 ^ 126 := by norm_cast
    linarith
  refine ⟨h252, ?_⟩
  unfold exponentOf
  show Scalar.select (BitVec.ofBool (decide ((t : EReal) < Ideal.ofBits .f32 0x00800000#32))) (Ideal.ofBits .f32 0x00000000#32)
    (Ideal.liftRound Int.floor (Ideal.div (Ideal.log (t : EReal)) (Ideal.log (Ideal.ofBits .f32 0x40000000#32)))
      + Ideal.ofBits .f32 0x3F800000#32) = _
  rw [ofBits_tiny, Ideal.ofBits_zero_f32, ofBits_two, ofBits_one]
  by_cases hz : field (t : EReal) = 0
  · rw [hz] at hb
    rw [if_pos hz]
    simp [Scalar.select, hb]
  · have hp := gridPoint_normal (field (t : EReal)) (by omega) hc
    have hq := gridPoint_normal (field (t : EReal) + 1) (by omega) (by omega)
    rw [hp] at ha
    rw [hq] at hb
    rw [EReal.coe_le_coe_iff] at ha
    rw [EReal.coe_lt_coe_iff] at hb
    have hnot : ¬ ((t : EReal) < gridPoint 1) := by
      rw [gridPoint_normal 1 le_rfl (by norm_num), EReal.coe_lt_coe_iff, not_lt]
      exact le_trans (zpow_le_zpow_right₀ (by norm_num) (by omega)) ha
    have ht : 0 < t := lt_of_lt_of_le (zpow_pos (by norm_num) _) ha
    rw [if_neg hz]
    simp only [Scalar.select, hnot, decide_false]
    rw [if_neg (by decide)]
    have hl2 : (0 : ℝ) < Real.log 2 := Real.log_pos (by norm_num)
    have e1 : Ideal.log (t : EReal) = ((Real.log t : ℝ) : EReal) := by
      show (if t ≤ 0 then (⊥ : EReal) else (Real.log t : EReal)) = _
      rw [if_neg (not_le.mpr ht)]
    have e2 : Ideal.log ((2 : ℝ) : EReal) = ((Real.log 2 : ℝ) : EReal) := by
      show (if (2 : ℝ) ≤ 0 then (⊥ : EReal) else (Real.log 2 : EReal)) = _
      rw [if_neg (by norm_num)]
    have e3 : Ideal.div ((Real.log t : ℝ) : EReal) ((Real.log 2 : ℝ) : EReal) = ((Real.log t / Real.log 2 : ℝ) : EReal) := by
      unfold Ideal.div
      rw [if_neg (by rw [EReal.coe_eq_zero]; exact hl2.ne'), ← EReal.coe_inv, ← EReal.coe_mul, div_eq_mul_inv]
    rw [e1, e2, e3]
    show (((⌊Real.log t / Real.log 2⌋ : ℤ) : ℝ) : EReal) + ((1 : ℝ) : EReal) = _
    have hfl : ⌊Real.log t / Real.log 2⌋ = (field (t : EReal) : ℤ) - 127 := by
      rw [Int.floor_eq_iff]
      constructor
      · rw [le_div_iff₀ hl2, ← Real.log_zpow]
        exact Real.log_le_log (zpow_pos (by norm_num) _) ha
      · rw [div_lt_iff₀ hl2]
        have : ((((field (t : EReal) : ℤ) - 127 : ℤ) : ℝ) + 1) = (((((field (t : EReal) + 1 : ℕ) : ℤ) - 127 : ℤ)) : ℝ) := by push_cast; ring
        rw [this, ← Real.log_zpow]
        exact Real.log_lt_log ht hb
    rw [hfl, ← EReal.coe_add]
    congr 1
    push_cast
    ring

theorem word_scale (n : ℕ) (hn : n ≤ 252) : IntOp.addi (exponentWord (BitVec.ofNat 32 n)) 127#32
    = BitVec.ofNat 32 (if n = 0 then 127 else n + 1) := by
  unfold exponentWord
  by_cases h : n = 0
  · subst h; decide
  · have : ¬ (BitVec.ofNat 32 n == 0#32) = true := by
      rw [beq_iff_eq]; intro hh
      have := congrArg BitVec.toNat hh
      simp at this; omega
    simp only [IntOp.cmpi, Scalar.select, this]
    rw [if_neg (by decide), if_neg h]
    unfold IntOp.addi IntOp.subi
    apply BitVec.eq_of_toNat_eq
    simp
    omega

theorem word_inverse (n : ℕ) (hn : n ≤ 252) : IntOp.subi 127#32 (exponentWord (BitVec.ofNat 32 n))
    = BitVec.ofNat 32 (if n = 0 then 127 else 253 - n) := by
  unfold exponentWord
  by_cases h : n = 0
  · subst h; decide
  · have : ¬ (BitVec.ofNat 32 n == 0#32) = true := by
      rw [beq_iff_eq]; intro hh
      have := congrArg BitVec.toNat hh
      simp at this; omega
    simp only [IntOp.cmpi, Scalar.select, this]
    rw [if_neg (by decide), if_neg h]
    unfold IntOp.subi
    apply BitVec.eq_of_toNat_eq
    simp
    omega

/-- The kernel's scale is the reference's. -/
theorem kernelScale_eq (t : EReal) (h0 : 0 ≤ t) (h1 : t < ((2 ^ 126 : ℝ) : EReal)) : kernelScale t = scaleOf t := by
  obtain ⟨hf, he⟩ := exponentOf_eq t h0 h1
  unfold kernelScale scaleOf
  rw [fieldWord_eq, word_scale _ hf, shl23, he]
  show gridPoint _ = Ideal.pow (Ideal.ofBits .f32 0x40000000#32) _
  rw [ofBits_two, pow_two_coe]
  by_cases h : field t = 0
  · rw [if_pos h, if_pos h, gridPoint_normal _ (by norm_num) (by norm_num)]; norm_num
  · rw [if_neg h, if_neg h, gridPoint_normal _ (by omega) (by omega)]
    congr 2; push_cast; ring

/-- The kernel's inverse scale is the reference's. -/
theorem kernelInverse_eq (t : EReal) (h0 : 0 ≤ t) (h1 : t < ((2 ^ 126 : ℝ) : EReal)) : kernelInverse t = inverseOf t := by
  obtain ⟨hf, he⟩ := exponentOf_eq t h0 h1
  unfold kernelInverse inverseOf
  rw [fieldWord_eq, word_inverse _ hf, shl23, he]
  show gridPoint _ = Ideal.pow (Ideal.ofBits .f32 0x40000000#32) (-_)
  rw [ofBits_two, ← EReal.coe_neg, ← Int.cast_neg, pow_two_coe]
  by_cases h : field t = 0
  · rw [if_pos h, if_pos h, gridPoint_normal _ (by norm_num) (by norm_num)]; norm_num
  · rw [if_neg h, if_neg h, gridPoint_normal _ (by omega) (by omega)]
    congr 2; omega

end Cert.Mix

end
-- ==== Proof.Spec.lean ====
/- What both programs compute, one row of tokens at a time, as functions of the row and the weights over the extended
   reals. Nothing here mentions either program. -/
module

public import proofs.«01_k».proof.Proof.Exponent

@[expose] public section

noncomputable section

namespace Cert.Mix

open Idealize.ShloMosaic

/-- The greatest magnitude in a row. -/
def rowMax (r : Fin 2048 → EReal) : EReal := (Finset.univ : Finset (Fin 2048)).fold max ⊥ fun d => max (r d) (-(r d))

/-- The row's step before it is rounded to a power of two: the greatest magnitude over 448. -/
def rowStep (r : Fin 2048 → EReal) : EReal := rowMax r * Ideal.ofBits .f32 0x3B124925#32

/-- One code of the quantised row. -/
def rowCode (r : Fin 2048 → EReal) (d : Fin 2048) : EReal :=
  min (Ideal.ofBits .f32 0x43E00000#32) (max (Ideal.ofBits .f32 0xC3E00000#32) (r d * inverseOf (rowStep r)))

/-- The router's logit for expert `e`. -/
def logit (r : Fin 2048 → EReal) (W : Fin 2048 → Fin 11 → EReal) (b : Fin 11 → EReal) (e : Fin 11) : EReal :=
  (∑ d, r d * W d e) + b e

/-- The greatest of eleven logits. -/
def logitMax (l : Fin 11 → EReal) : EReal := (Finset.univ : Finset (Fin 11)).fold max ⊥ l

/-- The softmax of eleven logits. -/
def soft (l : Fin 11 → EReal) (e : Fin 11) : EReal :=
  Ideal.div (Ideal.exp (l e - logitMax l)) (∑ e', Ideal.exp (l e' - logitMax l))

/-- The gate of choice `k`, for the two experts `c`. -/
def gate (p : Fin 11 → EReal) (c : Fin 2 → Fin 11) (k : Fin 2) : EReal := Ideal.div (p (c k)) (∑ k', p (c k'))

/-- The weight that the two gates put on expert `e`. -/
def weight (g : Fin 2 → EReal) (c : Fin 2 → Fin 11) (e : Fin 11) : EReal := ∑ k, (if c k = e then 1 else 0) * g k

/-- The row's low-rank activation for expert `e`, rank `q`, weighted and doubled. -/
def hidden (r : Fin 2048 → EReal) (A : Fin 11 → Fin 2048 → Fin 40 → EReal) (w : Fin 11 → EReal) (e : Fin 11) (q : Fin 40) : EReal :=
  (∑ d, r d * A e d q) * (w e * Ideal.ofBits .f32 0x40000000#32)

/-- One entry of the row's result. -/
def rowOut (code : Fin 2048 → EReal) (scale : EReal) (h : Fin 11 → Fin 40 → EReal) (W : Fin 2048 → EReal) (ws : EReal)
    (B : Fin 11 → Fin 40 → EReal) : EReal :=
  (∑ d, code d * W d) * scale * ws + ∑ e, ∑ q, h e q * B e q

/-- The expert that a 32-bit index names. -/
def expert (w : BitVec 32) : Fin 11 := ⟨w.toNat % 11, Nat.mod_lt _ (by norm_num)⟩

end Cert.Mix

end
-- ==== Proof.KernelHost.lean ====
/- What the kernel's host operations lay out for it: the low-rank factors and the router's weights side by side on 512 lanes, the
   router's bias on 16 rows, the indices and the column scales re-laid. -/
module

public import proofs.«01_k».proof.Proof.Gen.KernelIdeal.Frame
public import proofs.«01_k».proof.Proof.Spec
public import Idealize.ShloMosaic.PureOps.Ideal.Laws
public import Idealize.ShloMosaic.Lib.Pointwise
public import Idealize.ShloMosaic.Lib.StableHlo.RunRead
public import Idealize.ShloMosaic.Lib.StableHlo.ReadAt
public import Idealize.ShloMosaic.Lib.Routing.OpsPair
public import Idealize.ShloMosaic.Lib.Routing.OpsSet

@[expose] public section

noncomputable section

namespace Cert.Mix.Kern

open Idealize.ShloMosaic Idealize.ShloMosaic.Routing Idealize.ShloMosaic.TcCoe Idealize.SL.Sem Cert.KernelIdeal Cert.KernelIdeal.Gen Cert.Mix

/-- The lane that holds rank `q` of expert `e`. -/
def lane (e : Fin 11) (q : Fin 40) : Fin 512 := ⟨e.val / 3 * 128 + e.val % 3 * 40 + q.val, by omega⟩

abbrev zeroBf16 : FVec Ideal S_ .bf16 := sitofp .bf16 (constantI S_ 32 0#32)

def laneA12 (A : FVec Ideal S11x2048x40 .bf16) : FVec Ideal S2048x12x40 .bf16 :=
  pad S2048x12x40 ![0, 0, 0] ![0, 1, 0] ![0, 0, 0] (transpose S2048x11x40 [1, 0, 2] A transposes_S11x2048x40_S2048x11x40_1_0_2) zeroBf16 pads_S2048x11x40_S2048x12x40_000_010_000 h_S_

def laneA4 (Y : FVec Ideal S2048x12x40 .bf16) : FVec Ideal S2048x512 .bf16 :=
  shapeCast S2048x512 (pad S2048x4x128 ![0, 0, 0] ![0, 0, 8] ![0, 0, 0] (shapeCast S2048x4x120 Y shapeCasts_S2048x12x40_S2048x4x120) zeroBf16 pads_S2048x4x120_S2048x4x128_000_000_080 h_S_) shapeCasts_S2048x4x128_S2048x512

def laneRouter (Y : FVec Ideal S2048x512 .bf16) (R : FVec Ideal S2048x11 .bf16) : FVec Ideal S2048x512 .bf16 :=
  Host.scatter scatter_S2048x512_S1_S2048x11_01_n_1_0 (fun _ b => b) Y (broadcastInDim S1 ![] bcast_S_S1 (constantI S_ 32 464#32)) R

def laneB12 (B : FVec Ideal S11x40x5632 .bf16) : FVec Ideal S12x40x5632 .bf16 :=
  pad S12x40x5632 ![0, 0, 0] ![1, 0, 0] ![0, 0, 0] B zeroBf16 pads_S11x40x5632_S12x40x5632_010_000_000 h_S_

def laneB4 (Y : FVec Ideal S12x40x5632 .bf16) : FVec Ideal S512x5632 .bf16 :=
  shapeCast S512x5632 (pad S4x128x5632 ![0, 0, 0] ![0, 8, 0] ![0, 0, 0] (shapeCast S4x120x5632 Y shapeCasts_S12x40x5632_S4x120x5632) zeroBf16 pads_S4x120x5632_S4x128x5632_000_080_000 h_S_) shapeCasts_S4x128x5632_S512x5632

def biasColumn (b : FVec Ideal S11 .f32) : FVec Ideal S16x1 .f32 :=
  shapeCast S16x1 (pad S16 ![0] ![5] ![0] b (sitofp .f32 (constantI S_ 32 0#32)) pads_S11_S16_050 h_S_) shapeCasts_S16_S16x1

theorem lane_facts (e : Fin 11) (q : Fin 40) : (lane e q).val / 128 = e.val / 3 ∧ (lane e q).val % 128 = e.val % 3 * 40 + q.val
    ∧ (lane e q).val % 128 / 40 = e.val % 3 ∧ (lane e q).val % 128 % 40 = q.val := by
  have h : ∀ (n k : ℕ), n < 11 → k < 40 → (n / 3 * 128 + n % 3 * 40 + k) / 128 = n / 3 ∧ (n / 3 * 128 + n % 3 * 40 + k) % 128 = n % 3 * 40 + k
      ∧ (n / 3 * 128 + n % 3 * 40 + k) % 128 / 40 = n % 3 ∧ (n / 3 * 128 + n % 3 * 40 + k) % 128 % 40 = k := by
    intro n k hn hk
    interval_cases n <;> omega
  exact h e.val q.val e.isLt q.isLt

theorem laneA12_at (A : FVec Ideal S11x2048x40 .bf16) (d : Fin 2048) (e : Fin 11) (q : Fin 40) :
    laneA12 A (ix3 d (⟨e.val, by omega⟩ : Fin 12) q) = A (ix3 e d q) := by
  pointwise [laneA12]

theorem laneA4_at (Y : FVec Ideal S2048x12x40 .bf16) (d : Fin 2048) (e : Fin 11) (q : Fin 40) :
    laneA4 Y (ix2 d (lane e q)) = Y (ix3 d (⟨e.val, by omega⟩ : Fin 12) q) := by
  pointwise [laneA4]
  obtain ⟨h1, h2, h3, h4⟩ := lane_facts e q
  rw [dif_pos (by omega)]
  have key : ∀ (x y : ℕ) (hx : x < 12) (hy : y < 40), x = e.val → y = q.val →
      Y (ix3 d (⟨x, hx⟩ : Fin 12) (⟨y, hy⟩ : Fin 40)) = Y (ix3 d (⟨e.val, by omega⟩ : Fin 12) q) := by
    intro x y hx hy h1 h2; subst h1; subst h2; rfl
  exact key _ _ _ _ (by omega) (by omega)

theorem laneB12_at (B : FVec Ideal S11x40x5632 .bf16) (e : Fin 11) (q : Fin 40) (o : Fin 5632) :
    laneB12 B (ix3 (⟨e.val, by omega⟩ : Fin 12) q o) = B (ix3 e q o) := by
  pointwise [laneB12]

theorem laneB4_at (Y : FVec Ideal S12x40x5632 .bf16) (e : Fin 11) (q : Fin 40) (o : Fin 5632) :
    laneB4 Y (ix2 (lane e q) o) = Y (ix3 (⟨e.val, by omega⟩ : Fin 12) q o) := by
  pointwise [laneB4]
  obtain ⟨h1, h2, h3, h4⟩ := lane_facts e q
  rw [dif_pos (by omega)]
  have key : ∀ (x y : ℕ) (hx : x < 12) (hy : y < 40), x = e.val → y = q.val →
      Y (ix3 (⟨x, hx⟩ : Fin 12) (⟨y, hy⟩ : Fin 40) o) = Y (ix3 (⟨e.val, by omega⟩ : Fin 12) q o) := by
    intro x y hx hy h1 h2; subst h1; subst h2; rfl
  exact key _ _ _ _ (by omega) (by omega)

theorem biasColumn_at (b : FVec Ideal S11 .f32) (e : Fin 11) : biasColumn b (ix2 (⟨e.val, by omega⟩ : Fin 16) (0 : Fin 1)) = b (ix1 e) := by
  pointwise [biasColumn]

theorem lands (R : FVec Ideal S2048x11 .bf16) (d' : Fin 2048) (e : Fin 11) (d : Fin 2048) (l : Fin 512) :
    (scatter_S2048x512_S1_S2048x11_01_n_1_0.resultIdx? (ix2 d' e) (broadcastInDim S1 ![] bcast_S_S1 (constantI S_ 32 464#32)) = some (ix2 d l))
      ↔ d'.val = d.val ∧ 464 + e.val = l.val := by
  rw [resultIdx?_eq_some]
  have h0 : scatter_S2048x512_S1_S2048x11_01_n_1_0.start (ix2 d' e) (broadcastInDim S1 ![] bcast_S_S1 (constantI S_ 32 464#32)) 0 = 0 := by rfl
  have h1 : scatter_S2048x512_S1_S2048x11_01_n_1_0.start (ix2 d' e) (broadcastInDim S1 ![] bcast_S_S1 (constantI S_ 32 464#32)) 1 = 464 := by rfl
  have w0 : scatter_S2048x512_S1_S2048x11_01_n_1_0.window (ix2 d' e) 0 = d'.val := by rfl
  have w1 : scatter_S2048x512_S1_S2048x11_01_n_1_0.window (ix2 d' e) 1 = e.val := by rfl
  constructor
  · intro h
    have a0 := h 0
    have a1 := h 1
    rw [h0, w0] at a0
    rw [h1, w1] at a1
    change (0 : Int) + (d'.val : Int) = (d.val : Int) at a0
    change (464 : Int) + (e.val : Int) = (l.val : Int) at a1
    omega
  · rintro ⟨a0, a1⟩ a
    match a with
    | ⟨0, _⟩ =>
      show scatter_S2048x512_S1_S2048x11_01_n_1_0.start (ix2 d' e) _ 0 + ((scatter_S2048x512_S1_S2048x11_01_n_1_0.window (ix2 d' e) 0 : ℕ) : Int) = (d.val : Int)
      rw [h0, w0]; omega
    | ⟨1, _⟩ =>
      show scatter_S2048x512_S1_S2048x11_01_n_1_0.start (ix2 d' e) _ 1 + ((scatter_S2048x512_S1_S2048x11_01_n_1_0.window (ix2 d' e) 1 : ℕ) : Int) = (l.val : Int)
      rw [h1, w1]; omega

theorem laneRouter_at (Y : FVec Ideal S2048x512 .bf16) (R : FVec Ideal S2048x11 .bf16) (d : Fin 2048) (e : Fin 11) :
    laneRouter Y R (ix2 d (⟨464 + e.val, by omega⟩ : Fin 512)) = R (ix2 d e) := by
  unfold laneRouter
  refine scatter_set_hit _ _ _ _ _ _ (fun k hk => ?_) (ix2 d e) ((lands R d e d _).2 ⟨rfl, rfl⟩)
  rw [eq_ix2 k] at hk ⊢
  obtain ⟨a, b⟩ := (lands R _ _ d _).1 hk
  exact congrArg R (congrArg₂ ix2 (Fin.ext a) (Fin.ext (by have : 464 + (k 1).val = 464 + e.val := b; omega)))

theorem laneRouter_off (Y : FVec Ideal S2048x512 .bf16) (R : FVec Ideal S2048x11 .bf16) (d : Fin 2048) (l : Fin 512) (h : l.val < 464) :
    laneRouter Y R (ix2 d l) = Y (ix2 d l) := by
  unfold laneRouter
  refine scatter_set_miss _ _ _ _ _ (fun k hk => ?_)
  rw [eq_ix2 k] at hk
  obtain ⟨a, b⟩ := (lands R _ _ d _).1 hk
  omega

variable (m : (ℓ : Loc nD τ sig) → Buf (Elt Ideal) ℓ)

/-- The kernel's arguments on device `c`. -/
abbrev kX (c : Dev nD) : FVec Ideal S24x512x2048 .bf16 := m ((c : Thread nD τ).loc main_arg0)
abbrev kW (c : Dev nD) : FVec Ideal S2048x5632 .fp8e4m3 := m ((c : Thread nD τ).loc main_arg1)
abbrev kWs (c : Dev nD) : FVec Ideal S5632 .f32 := m ((c : Thread nD τ).loc main_arg2)
abbrev kRw (c : Dev nD) : FVec Ideal S2048x11 .bf16 := m ((c : Thread nD τ).loc main_arg3)
abbrev kRb (c : Dev nD) : FVec Ideal S11 .f32 := m ((c : Thread nD τ).loc main_arg4)
abbrev kIdx (c : Dev nD) : IVec S24x512x2 32 := m ((c : Thread nD τ).loc main_arg5)
abbrev kA (c : Dev nD) : FVec Ideal S11x2048x40 .bf16 := m ((c : Thread nD τ).loc main_arg6)
abbrev kB (c : Dev nD) : FVec Ideal S11x40x5632 .bf16 := m ((c : Thread nD τ).loc main_arg7)

theorem host_a12 (c : Dev nD) : (V m c main_v1 : FVec Ideal S2048x12x40 .bf16) = laneA12 (kA m c) := by
  unfold V laneA12
  after_reads_simp
  simp -implicitDefEqProofs only [StableHlo.TRef.toBuf, StableHlo.TRef.ofBuf, cast_cast, cast_eq, id_eq]

theorem host_a4 (c : Dev nD) : (V m c main_v4 : FVec Ideal S2048x512 .bf16) = laneA4 (V m c main_v1) := by
  unfold V laneA4
  after_reads_simp
  simp -implicitDefEqProofs only [StableHlo.TRef.toBuf, StableHlo.TRef.ofBuf, cast_cast, cast_eq, id_eq]
  rfl

theorem host_a (c : Dev nD) : (V m c main_v6 : FVec Ideal S2048x512 .bf16) = laneRouter (V m c main_v4) (kRw m c) := by
  unfold V laneRouter
  after_reads_simp

theorem host_b12 (c : Dev nD) : (V m c main_v7 : FVec Ideal S12x40x5632 .bf16) = laneB12 (kB m c) := by
  unfold V laneB12
  after_reads_simp
  simp -implicitDefEqProofs only [StableHlo.TRef.toBuf, StableHlo.TRef.ofBuf, cast_cast, cast_eq, id_eq]

theorem host_b (c : Dev nD) : (V m c main_v10 : FVec Ideal S512x5632 .bf16) = laneB4 (V m c main_v7) := by
  unfold V laneB4
  after_reads_simp
  simp -implicitDefEqProofs only [StableHlo.TRef.toBuf, StableHlo.TRef.ofBuf, cast_cast, cast_eq, id_eq]
  rfl

theorem host_bias (c : Dev nD) : (V m c main_v12 : FVec Ideal S16x1 .f32) = biasColumn (kRb m c) := by
  unfold V biasColumn
  after_reads_simp
  simp -implicitDefEqProofs only [StableHlo.TRef.toBuf, StableHlo.TRef.ofBuf, cast_cast, cast_eq, id_eq]
  rfl

theorem host_idx (c : Dev nD) : (V m c main_v13 : IVec S24x2x512 32) = transpose S24x2x512 [0, 2, 1] (kIdx m c) transposes_S24x512x2_S24x2x512_0_2_1 := by
  unfold V
  after_reads_simp

theorem host_ws (c : Dev nD) : (V m c main_v14 : FVec Ideal S1x5632 .f32) = shapeCast S1x5632 (kWs m c) shapeCasts_S5632_S1x5632 := by
  unfold V
  after_reads_simp
  rfl

end Cert.Mix.Kern

end
-- ==== Proof.KernelRows.lean ====
/- The kernel body's vector expressions, each read at an index. -/
module

public import proofs.«01_k».proof.Proof.Gen.KernelIdeal.Frame
public import proofs.«01_k».proof.Proof.Spec
public import Idealize.ShloMosaic.PureOps.Ideal.Laws
public import Idealize.ShloMosaic.Lib.Pointwise

@[expose] public section

noncomputable section

namespace Cert.Mix.Kern

open Idealize.ShloMosaic Idealize.ShloMosaic.TcCoe Idealize.SL.Sem Cert.KernelIdeal Cert.KernelIdeal.Gen Cert.Mix

theorem ofBits_bot_bf16 : Ideal.ofBits .bf16 0xFF80#16 = ⊥ := by
  simp [Ideal.ofBits, Ideal.ieee]

theorem ofBits_bot_f32 : Ideal.ofBits .f32 0xFF800000#32 = ⊥ := by
  simp [Ideal.ofBits, Ideal.ieee]

theorem rowMax_read (v1 : FVec Ideal S512x2048 .bf16) (s : Fin 512) :
    (multiReduction (F := Ideal) .maximumf [1] S512 (absf v1) 0xFF80#16 reduces_S512x2048_S512 (.inr rfl) rfl : FVec Ideal S512 .bf16) (ix1 s)
      = rowMax (fun d => v1 (ix2 s d)) := by
  refine (Ideal.multiReduction_maximumf_single _ _ _ _ _ _).trans ?_
  unfold rowMax
  show (Finset.univ : Finset (Fin 2048)).fold max (Ideal.ofBits .bf16 0xFF80#16) _ = _
  rw [ofBits_bot_bf16]
  refine congrArg (fun f => (Finset.univ : Finset (Fin 2048)).fold max ⊥ f) (funext fun d => ?_)
  have h : (Shape.Reduces.lift reduces_S512x2048_S512 (ix1 s) d) = ix2 s d := by
    funext a; match a with | ⟨0, _⟩ => rfl | ⟨1, _⟩ => rfl
  show max (v1 (Shape.Reduces.lift reduces_S512x2048_S512 (ix1 s) d)) (-(v1 (Shape.Reduces.lift reduces_S512x2048_S512 (ix1 s) d))) = max (v1 (ix2 s d)) (-(v1 (ix2 s d)))
  rw [h]
  rfl

theorem pay2_row (v0 : Vec Ideal S1x512x2048 .bf16) (s : Fin 512) :
    (fun d : Fin 2048 => k0_pay2 (F := Ideal) v0 (ix2 s d)) = fun d => v0 (ix3 (0 : Fin 1) s d) := by
  funext d
  pointwise [k0_pay2]

theorem rowScale_read (R : FVec Ideal S512 .bf16) (s : Fin 512) :
   (mulf (F := Ideal) (extf .f32 (shapeCast S512x1 R shapeCasts_S512_S512x1) bitsLt_bf16_f32) (broadcast S512x1 (Scalar.ofBits .f32 0x3B124925#32))) (ix2 s (0 : Fin 1)) = R (ix1 s) * Ideal.ofBits .f32 0x3B124925#32 := by
  pointwise

theorem pay4_read (v0 : Vec Ideal S1x512x2048 .bf16) (s : Fin 512) :
    k0_pay4 (F := Ideal) v0 (ix2 s (0 : Fin 1)) = rowMax (fun d => k0_pay2 (F := Ideal) v0 (ix2 s d)) * Ideal.ofBits .f32 0x3B124925#32 := by
  refine (rowScale_read (multiReduction (F := Ideal) .maximumf [1] S512 (absf (k0_pay2 v0)) 0xFF80#16 reduces_S512x2048_S512 (.inr rfl) rfl) s).trans ?_
  exact congrArg (fun z : EReal => z * Ideal.ofBits .f32 0x3B124925#32) (rowMax_read (k0_pay2 v0) s)

/-- The row's step. -/
theorem pay4_at (v0 : Vec Ideal S1x512x2048 .bf16) (s : Fin 512) :
    k0_pay4 (F := Ideal) v0 (ix2 s (0 : Fin 1)) = rowStep (fun d => v0 (ix3 (0 : Fin 1) s d)) := by
  rw [pay4_read, pay2_row]
  unfold rowStep
  rfl

/-- One step of the search for the exponent field, on vectors. -/
def stepVec (T : FVec Ideal S512x1 .f32) (w : IVec S512x1 32) (k : BitVec 32) : IVec S512x1 32 :=
  select (cmpf (F := Ideal) .olt T (bitcastToFloat .f32 (shli (addi w (broadcast S512x1 k)) (broadcast S512x1 23#32)))) w (addi w (broadcast S512x1 k))

theorem stepVec_at (T : FVec Ideal S512x1 .f32) (w : IVec S512x1 32) (k : BitVec 32) (s : Fin 512) :
    stepVec T w k (ix2 s (0 : Fin 1)) = searchStep (T (ix2 s (0 : Fin 1))) (w (ix2 s (0 : Fin 1))) k := rfl

theorem pay5_eq (v0 : Vec Ideal S1x512x2048 .bf16) :
    k0_pay5 (F := Ideal) v0 = stepVec (k0_pay4 v0) (stepVec (k0_pay4 v0) (stepVec (k0_pay4 v0) (broadcast S512x1 0#32) 128#32) 64#32) 32#32 := by
  unfold k0_pay5 stepVec
  rfl

theorem pay7_eq (T : FVec Ideal S512x1 .f32) (w : IVec S512x1 32) :
    k0_pay7 (F := Ideal) T w k0_pay6 = stepVec T (stepVec T (stepVec T (stepVec T (stepVec T w 16#32) 8#32) 4#32) 2#32) 1#32 := by
  unfold k0_pay7 k0_pay6 stepVec
  rfl

/-- The field the search finds. -/
theorem pay7_at (v0 : Vec Ideal S1x512x2048 .bf16) (s : Fin 512) :
    k0_pay7 (F := Ideal) (k0_pay4 v0) (k0_pay5 v0) k0_pay6 (ix2 s (0 : Fin 1)) = fieldWord (k0_pay4 (F := Ideal) v0 (ix2 s (0 : Fin 1))) := by
  rw [pay7_eq, pay5_eq]
  simp only [stepVec_at]
  unfold fieldWord
  rfl

theorem pay9_at (w : IVec S512x1 32) (s : Fin 512) : k0_pay9 w k0_pay8 (ix2 s (0 : Fin 1)) = exponentWord (w (ix2 s (0 : Fin 1))) := by
  unfold k0_pay9 k0_pay8 exponentWord
  rfl

theorem pay10_at (w : IVec S512x1 32) (s : Fin 512) :
    k0_pay10 (F := Ideal) w k0_pay8 (ix2 s (0 : Fin 1))
      = FloatOps.ofBits (F := Ideal) .f32 (IntOp.shli .vector (IntOp.addi (exponentWord (w (ix2 s (0 : Fin 1)))) 127#32) 23#32) := by
  rw [← pay9_at]
  unfold k0_pay10
  rfl

theorem pay11_at (v1 : FVec Ideal S512x2048 .bf16) (w : IVec S512x1 32) (s : Fin 512) (d : Fin 2048) :
    k0_pay11 (F := Ideal) v1 w k0_pay8 (ix2 s d)
      = min (Ideal.ofBits .f32 0x43E00000#32) (max (Ideal.ofBits .f32 0xC3E00000#32)
        (v1 (ix2 s d) * FloatOps.ofBits (F := Ideal) .f32 (IntOp.shli .vector (IntOp.subi 127#32 (exponentWord (w (ix2 s (0 : Fin 1))))) 23#32))) := by
  rw [← pay9_at]
  unfold k0_pay11
  generalize k0_pay9 w k0_pay8 = W
  generalize hB : bitcastToFloat (F := Ideal) .f32 (shli (subi (broadcast S512x1 127#32) W) (broadcast S512x1 23#32)) = B
  pointwise
  rw [← hB]
  rfl

theorem cast12_at (v1 : FVec Ideal S512x2048 .bf16) (w z : IVec S512x1 32) (s : Fin 512) (d : Fin 2048) :
    k0_pay12 (F := Ideal) v1 w z (ix3 (0 : Fin 1) s d) = k0_pay11 (F := Ideal) v1 w z (ix2 s d) := by
  pointwise [k0_pay12]

theorem cast13_at (w z : IVec S512x1 32) (s : Fin 512) :
    k0_pay13 (F := Ideal) w z (ix3 (0 : Fin 1) (0 : Fin 1) s) = k0_pay10 (F := Ideal) w z (ix2 s (0 : Fin 1)) := by
  pointwise [k0_pay13]

theorem pay2_at (v0 : Vec Ideal S1x512x2048 .bf16) (s : Fin 512) (d : Fin 2048) :
    k0_pay2 (F := Ideal) v0 (ix2 s d) = v0 (ix3 (0 : Fin 1) s d) := by
  pointwise [k0_pay2]

theorem pay3_at (v0 : Vec Ideal S1x512x2048 .bf16) (v2 : Vec Ideal S2048x512 .bf16) (s l : Fin 512) :
    k0_pay3 (F := Ideal) v0 v2 (ix2 s l) = ∑ d : Fin 2048, v0 (ix3 (0 : Fin 1) s d) * v2 (ix2 d l) := by
  pointwise [k0_pay3, k0_pay2]

theorem pay14_at (v4 : FVec Ideal S512x512 .f32) (v118 : Vec Ideal S16x1 .f32) (r : Fin 16) (s : Fin 512) :
    k0_pay14 (F := Ideal) v4 v118 (ix2 r s) = v4 (ix2 s ⟨464 + r.val, by omega⟩) + v118 (ix2 r (0 : Fin 1)) := by
  pointwise [k0_pay14]
  refine congrArg (fun z => v4 (ix2 s z) + v118 (ix2 r (0 : Fin 1))) (Fin.ext ?_)
  show 384 + (80 + r.val) = 464 + r.val
  omega

/-- A row index of the sixteen, below eleven. -/
theorem mask_at : ∀ r : Fin 16, IntOp.cmpi CmpIPredicate.slt (BitVec.ofNat 32 r.val) 11#32 = if r.val < 11 then 1#1 else 0#1 := by
  decide

/-- The first eleven of sixteen values; the least value in place of the others. -/
def masked (l : Fin 16 → EReal) (r : Fin 16) : EReal := if r.val < 11 then l r else ⊥

/-- The greatest of sixteen values. -/
def maskedMax (l : Fin 16 → EReal) : EReal := (Finset.univ : Finset (Fin 16)).fold max ⊥ (masked l)

theorem select_masked (l : Fin 16 → EReal) (r : Fin 16) :
    Scalar.select (IntOp.cmpi CmpIPredicate.slt (BitVec.ofNat 32 r.val) 11#32) (l r) (⊥ : EReal) = masked l r := by
  rw [mask_at]
  unfold masked Scalar.select
  by_cases h : r.val < 11
  · rw [if_pos h, if_pos (show (1#1 : BitVec 1) = 1 from rfl), if_pos h]
  · rw [if_neg h, if_neg (by decide), if_neg h]

theorem pay16_at (v121 : FVec Ideal S16x512 .f32) (r : Fin 16) (s : Fin 512) :
    k0_pay16 (F := Ideal) v121 k0_pay15 (Scalar.ofBits (F := Ideal) .f32 0xFF800000#32) (ix2 r s)
      = Ideal.div (Ideal.exp (masked (fun r => v121 (ix2 r s)) r - maskedMax (fun r => v121 (ix2 r s))))
        (∑ r', Ideal.exp (masked (fun r => v121 (ix2 r s)) r' - maskedMax (fun r => v121 (ix2 r s)))) := by
  pointwise [k0_pay16, k0_pay15]
  rw [ofBits_bot_f32]
  have h := select_masked (fun r => v121 (ix2 r s))
  simp only [h]
  rfl

/-- The chosen row of the sixteen. -/
theorem pay19_at (v121 : FVec Ideal S16x512 .f32) (i : Vec Ideal S1x1x512 .i32) (M : IVec S16x512 1) (C : Ideal .f32) (s : Fin 512)
    (e : Fin 11) (he : i (ix3 (0 : Fin 1) (0 : Fin 1) s) = BitVec.ofNat 32 e.val) :
    k0_pay19 (F := Ideal) v121 (iota .tc S16x512 32 [0] iota_S16x512_d0_w32) M C i (ix2 (0 : Fin 1) s)
      = k0_pay16 (F := Ideal) v121 M C (ix2 (⟨e.val, by omega⟩ : Fin 16) s) := by
  unfold k0_pay19
  generalize k0_pay16 (F := Ideal) v121 M C = P
  pointwise [k0_pay17]
  rw [he, Finset.sum_eq_single (⟨e.val, by omega⟩ : Fin 16)]
  · rw [show IntOp.cmpi CmpIPredicate.eq (BitVec.ofNat 32 e.val) (BitVec.ofNat 32 e.val) = 1#1 from
      (by decide : ∀ e : Fin 11, IntOp.cmpi CmpIPredicate.eq (BitVec.ofNat 32 e.val) (BitVec.ofNat 32 e.val) = 1#1) e]
    rfl
  · intro r _ hr
    have h : ∀ (r : Fin 16) (e : Fin 11), r.val ≠ e.val → IntOp.cmpi CmpIPredicate.eq (BitVec.ofNat 32 r.val) (BitVec.ofNat 32 e.val) = 0#1 := by
      decide
    rw [h r e (fun hh => hr (Fin.ext hh))]
    rfl
  · intro h; exact absurd (Finset.mem_univ _) h

theorem pay24_at (v121 : FVec Ideal S16x512 .f32) (z : IVec S16x512 32) (i j : Vec Ideal S1x1x512 .i32) (M : IVec S16x512 1) (C : Ideal .f32) (s : Fin 512) :
    k0_pay24 (F := Ideal) v121 z M C i j (ix3 (0 : Fin 1) (0 : Fin 1) s) = k0_pay22 (F := Ideal) v121 z M C i j (ix2 (0 : Fin 1) s) := by
  pointwise [k0_pay24]

theorem pay25_at (v121 : FVec Ideal S16x512 .f32) (z : IVec S16x512 32) (i j : Vec Ideal S1x1x512 .i32) (M : IVec S16x512 1) (C : Ideal .f32) (s : Fin 512) :
    k0_pay25 (F := Ideal) v121 z M C i j (ix3 (0 : Fin 1) (0 : Fin 1) s) = k0_pay23 (F := Ideal) v121 z M C i j (ix2 (0 : Fin 1) s) := by
  pointwise [k0_pay25]

theorem pay22_at (v121 : FVec Ideal S16x512 .f32) (z : IVec S16x512 32) (i j : Vec Ideal S1x1x512 .i32) (M : IVec S16x512 1) (C : Ideal .f32) (s : Fin 512) :
    k0_pay22 (F := Ideal) v121 z M C i j (ix2 (0 : Fin 1) s) = Ideal.div (k0_pay19 (F := Ideal) v121 z M C i (ix2 (0 : Fin 1) s))
      (k0_pay19 (F := Ideal) v121 z M C i (ix2 (0 : Fin 1) s) + k0_pay20 (F := Ideal) v121 z M C j (ix2 (0 : Fin 1) s)) := by
  rfl

theorem pay23_at (v121 : FVec Ideal S16x512 .f32) (z : IVec S16x512 32) (i j : Vec Ideal S1x1x512 .i32) (M : IVec S16x512 1) (C : Ideal .f32) (s : Fin 512) :
    k0_pay23 (F := Ideal) v121 z M C i j (ix2 (0 : Fin 1) s) = Ideal.div (k0_pay20 (F := Ideal) v121 z M C j (ix2 (0 : Fin 1) s))
      (k0_pay19 (F := Ideal) v121 z M C i (ix2 (0 : Fin 1) s) + k0_pay20 (F := Ideal) v121 z M C j (ix2 (0 : Fin 1) s)) := by
  rfl

theorem pay20_eq (v121 : FVec Ideal S16x512 .f32) (z : IVec S16x512 32) (j : Vec Ideal S1x1x512 .i32) (M : IVec S16x512 1) (C : Ideal .f32) :
    k0_pay20 (F := Ideal) v121 z M C j = k0_pay19 (F := Ideal) v121 z M C j := by
  rfl

theorem pay30_at (a b : FVec Ideal S1x512 .f32) (z : FVec Ideal S4x512 .f32) (c d : FVec Ideal S1x512 .f32) (s : Fin 512) :
    k0_pay30 (F := Ideal) a b z c d (ix2 s (0 : Fin 1)) = c (ix2 (0 : Fin 1) s) := by
  pointwise [k0_pay30, k0_pay29]

theorem pay31_at (a b : FVec Ideal S1x512 .f32) (z : FVec Ideal S4x512 .f32) (c d : FVec Ideal S1x512 .f32) (s : Fin 512) :
    k0_pay31 (F := Ideal) a b z c d (ix2 s (0 : Fin 1)) = d (ix2 (0 : Fin 1) s) := by
  pointwise [k0_pay31, k0_pay29]

theorem pay32_at (a b : FVec Ideal S1x512 .f32) (z : FVec Ideal S4x512 .f32) (c d : FVec Ideal S1x512 .f32) (s : Fin 512) :
    k0_pay32 (F := Ideal) a b z c d (ix2 s (0 : Fin 1)) = a (ix2 (0 : Fin 1) s) * Ideal.ofBits .f32 0x40000000#32 := by
  pointwise [k0_pay32, k0_pay29]

theorem pay33_at (a b : FVec Ideal S1x512 .f32) (z : FVec Ideal S4x512 .f32) (c d : FVec Ideal S1x512 .f32) (s : Fin 512) :
    k0_pay33 (F := Ideal) a b z c d (ix2 s (0 : Fin 1)) = b (ix2 (0 : Fin 1) s) * Ideal.ofBits .f32 0x40000000#32 := by
  pointwise [k0_pay33, k0_pay29]

theorem pay27_at (i : Vec Ideal S1x1x512 .i32) (s : Fin 512) :
    k0_pay27 (F := Ideal) i (ix2 (0 : Fin 1) s) = (((i (ix3 (0 : Fin 1) (0 : Fin 1) s)).toInt : ℝ) : EReal) := by
  pointwise [k0_pay27, k0_pay17]
  rfl

theorem pay28_at (i : Vec Ideal S1x1x512 .i32) (s : Fin 512) :
    k0_pay28 (F := Ideal) i (ix2 (0 : Fin 1) s) = (((i (ix3 (0 : Fin 1) (0 : Fin 1) s)).toInt : ℝ) : EReal) := pay27_at i s

/-- The expert whose columns lane `l` belongs to; 11 where it belongs to none. -/
def laneExpert (l : Fin 512) : ℕ := if l.val % 128 < 120 then min 11 (l.val / 128 * 3 + l.val % 128 / 40) else 11

def laneWord (l : Fin 512) : BitVec 32 := if laneExpert l < 11 then BitVec.ofNat 32 (laneExpert l) else 4294967295#32

theorem pay39_at (l : Fin 512) :
    k0_pay39 (F := Ideal) k0_pay34 k0_pay35 k0_pay36 k0_pay37 k0_pay38 (ix2 (0 : Fin 1) l) = (((laneWord l).toInt : ℝ) : EReal) := by
  unfold k0_pay39
  show ((((_ : IVec S1x512 32) (ix2 (0 : Fin 1) l)).toInt : ℝ) : EReal) = _
  refine congrArg (fun w : BitVec 32 => ((w.toInt : ℝ) : EReal)) ?_
  revert l
  decide +kernel

theorem pay40_at (c q : FVec Ideal S512x1 .f32) (a b : IVec S1x512 32) (x : IVec S1x512 1) (y z : IVec S1x512 32) (s l : Fin 512) :
    k0_pay40 (F := Ideal) c q a b x y z (ix2 s l)
      = if k0_pay39 (F := Ideal) a b x y z (ix2 (0 : Fin 1) l) = c (ix2 s (0 : Fin 1)) then q (ix2 s (0 : Fin 1)) else 0 := by
  unfold k0_pay40
  generalize k0_pay39 (F := Ideal) a b x y z = E
  pointwise

theorem pay41_at (v4 : FVec Ideal S512x512 .f32) (c q : FVec Ideal S512x1 .f32) (E : FVec Ideal S1x512 .f32) (g : FVec Ideal S512x512 .f32) (s l : Fin 512) :
    k0_pay41 (F := Ideal) v4 c q E g (ix2 s l)
      = if 0 ≤ E (ix2 (0 : Fin 1) l) then v4 (ix2 s l) * (g (ix2 s l) + if E (ix2 (0 : Fin 1) l) = c (ix2 s (0 : Fin 1)) then q (ix2 s (0 : Fin 1)) else 0) else 0 := by
  pointwise [k0_pay41]

theorem pay1_at (sc : FVec Ideal S512x1 .f32) (cd : FVec Ideal S512x2048 .fp8e4m3) (hb : FVec Ideal S512x512 .bf16)
    (w : Vec Ideal S2048x512 .fp8e4m3) (b : Vec Ideal S512x512 .bf16) (ws : Vec Ideal S1x512 .f32) (s o : Fin 512) :
    k0_pay1 (F := Ideal) sc cd hb w b ws (ix3 (0 : Fin 1) s o)
      = (∑ d : Fin 2048, cd (ix2 s d) * w (ix2 d o)) * sc (ix2 s (0 : Fin 1)) * ws (ix2 (0 : Fin 1) o) + ∑ l : Fin 512, hb (ix2 s l) * b (ix2 l o) := by
  pointwise [k0_pay1]

theorem pay58_eq (sc : FVec Ideal S512x1 .f32) (cd : FVec Ideal S512x2048 .fp8e4m3) (hb : FVec Ideal S512x512 .bf16)
    (w : Vec Ideal S2048x512 .fp8e4m3) (b : Vec Ideal S512x512 .bf16) (ws : Vec Ideal S1x512 .f32) :
    k0_pay58 (F := Ideal) sc cd hb w b ws = k0_pay1 (F := Ideal) sc cd hb w b ws ∧ k0_pay57 (F := Ideal) sc cd hb w b ws = k0_pay1 (F := Ideal) sc cd hb w b ws
    ∧ k0_pay56 (k0_pay55 (F := Ideal) sc cd hb w b ws) = k0_pay1 (F := Ideal) sc cd hb w b ws ∧ k0_pay54 (F := Ideal) sc cd hb w b ws = k0_pay1 (F := Ideal) sc cd hb w b ws
    ∧ k0_pay53 (k0_pay52 (F := Ideal) sc cd hb w b ws) = k0_pay1 (F := Ideal) sc cd hb w b ws ∧ k0_pay51 (F := Ideal) sc cd hb w b ws = k0_pay1 (F := Ideal) sc cd hb w b ws
    ∧ k0_pay50 (k0_pay47 (F := Ideal) hb b) (k0_pay48 (F := Ideal) sc cd w) (k0_pay49 ws) = k0_pay1 (F := Ideal) sc cd hb w b ws ∧ k0_pay46 (F := Ideal) sc cd hb w b ws = k0_pay1 (F := Ideal) sc cd hb w b ws :=
  ⟨rfl, rfl, rfl, rfl, rfl, rfl, rfl, rfl⟩

theorem pay45_eq (v4 : FVec Ideal S512x512 .f32) (c q : FVec Ideal S512x1 .f32) (E : FVec Ideal S1x512 .f32) (g : FVec Ideal S512x512 .f32)
    (sc : FVec Ideal S512x1 .f32) (cd : FVec Ideal S512x2048 .fp8e4m3)
    (w : Vec Ideal S2048x512 .fp8e4m3) (b : Vec Ideal S512x512 .bf16) (ws : Vec Ideal S1x512 .f32) :
    k0_pay45 (k0_pay43 (F := Ideal) v4 c q E g b) (k0_pay44 (F := Ideal) sc cd w) ws = k0_pay1 (F := Ideal) sc cd (k0_pay41 v4 c q E g) w b ws
    ∧ k0_pay42 (F := Ideal) v4 sc cd c q E g w b ws = k0_pay1 (F := Ideal) sc cd (k0_pay41 v4 c q E g) w b ws :=
  ⟨rfl, rfl⟩

end Cert.Mix.Kern

end
-- ==== Proof.Lanes.lean ====
/- The kernel's 512 lanes against the reference's 11 experts of rank 40, and its 16 masked logits against the reference's 11. -/
module

public import proofs.«01_k».proof.Proof.KernelHost
public import proofs.«01_k».proof.Proof.KernelRows

@[expose] public section

noncomputable section

namespace Cert.Mix.Kern

open Idealize.ShloMosaic Cert.Mix

/-- Expert `e`'s row of the sixteen. -/
abbrev row16 (e : Fin 11) : Fin 16 := ⟨e.val, by omega⟩

theorem row16_injective : Function.Injective row16 := fun _ _ h => Fin.ext (congrArg (fun x : Fin 16 => x.val) h)

theorem laneExpert_lane (e : Fin 11) (q : Fin 40) : laneExpert (lane e q) = e.val := by
  obtain ⟨h1, h2, h3, h4⟩ := lane_facts e q
  unfold laneExpert
  rw [h1, h3, if_pos (by omega)]
  omega

theorem laneWord_lane (e : Fin 11) (q : Fin 40) : laneWord (lane e q) = BitVec.ofNat 32 e.val := by
  unfold laneWord
  rw [laneExpert_lane, if_pos e.isLt]

theorem lane_injective : Function.Injective (fun p : Fin 11 × Fin 40 => lane p.1 p.2) := by
  rintro ⟨e, q⟩ ⟨e', q'⟩ h
  have h' : lane e q = lane e' q' := h
  have he : e.val = e'.val := by rw [← laneExpert_lane e q, ← laneExpert_lane e' q', h']
  have hq : q.val = q'.val := by
    rw [← (lane_facts e q).2.2.2, ← (lane_facts e' q').2.2.2, h']
  exact Prod.ext (Fin.ext he) (Fin.ext hq)

theorem lane_of_expert (l : Fin 512) (h : laneExpert l < 11) : ∃ e q, lane e q = l := by
  unfold laneExpert at h
  by_cases h1 : l.val % 128 < 120
  · rw [if_pos h1] at h
    have hl := l.isLt
    have h2 : l.val / 128 * 3 + l.val % 128 / 40 < 11 := by omega
    refine ⟨⟨l.val / 128 * 3 + l.val % 128 / 40, h2⟩, ⟨l.val % 128 % 40, by omega⟩, Fin.ext ?_⟩
    show (l.val / 128 * 3 + l.val % 128 / 40) / 3 * 128 + (l.val / 128 * 3 + l.val % 128 / 40) % 3 * 40 + l.val % 128 % 40 = l.val
    have a1 : (l.val / 128 * 3 + l.val % 128 / 40) / 3 = l.val / 128 := by omega
    have a2 : (l.val / 128 * 3 + l.val % 128 / 40) % 3 = l.val % 128 / 40 := by omega
    rw [a1, a2]
    omega
  · rw [if_neg h1] at h
    omega

/-- A sum over the lanes that vanishes off the experts' columns is the sum over experts and ranks. -/
theorem sum_lanes (F : Fin 512 → EReal) (h : ∀ l, ¬ laneExpert l < 11 → F l = 0) :
    ∑ l, F l = ∑ e : Fin 11, ∑ q : Fin 40, F (lane e q) := by
  rw [← Fintype.sum_prod_type' (fun e q => F (lane e q))]
  refine (Fintype.sum_of_injective (fun p : Fin 11 × Fin 40 => lane p.1 p.2) lane_injective _ _ (fun l hl => h l fun hh => hl ?_) fun _ => rfl).symm
  obtain ⟨e, q, he⟩ := lane_of_expert l hh
  exact ⟨(e, q), he⟩

theorem toInt_expert (e : Fin 11) : (BitVec.ofNat 32 e.val).toInt = (e.val : ℤ) := by
  revert e; decide

theorem toInt_lane (e : Fin 11) (q : Fin 40) : (laneWord (lane e q)).toInt = (e.val : ℤ) := by
  rw [laneWord_lane, toInt_expert]

theorem toInt_noLane (l : Fin 512) (h : ¬ laneExpert l < 11) : (laneWord l).toInt = -1 := by
  unfold laneWord
  rw [if_neg h]
  decide

theorem coe_eq_iff (e c : Fin 11) : ((((e.val : ℤ) : ℝ) : EReal) = (((c.val : ℤ) : ℝ) : EReal)) ↔ c = e := by
  rw [EReal.coe_eq_coe_iff, Int.cast_inj, Nat.cast_inj, eq_comm, Fin.ext_iff]

/-- The kernel's doubled weight of expert `e`: gate by gate. -/
theorem weight_doubled (g : Fin 2 → EReal) (c : Fin 2 → Fin 11) (e : Fin 11) :
    (if (((e.val : ℤ) : ℝ) : EReal) = ((((c 0).val : ℤ) : ℝ) : EReal) then g 0 * Ideal.ofBits .f32 0x40000000#32 else 0)
      + (if (((e.val : ℤ) : ℝ) : EReal) = ((((c 1).val : ℤ) : ℝ) : EReal) then g 1 * Ideal.ofBits .f32 0x40000000#32 else 0)
      = weight g c e * Ideal.ofBits .f32 0x40000000#32 := by
  unfold weight
  rw [Fin.sum_univ_two, ofBits_two]
  simp only [coe_eq_iff]
  have h2 : (0 : EReal) ≤ ((2 : ℝ) : EReal) := by exact_mod_cast (by norm_num : (0 : ℝ) ≤ 2)
  rw [EReal.right_distrib_of_nonneg_of_ne_top h2 (EReal.coe_ne_top _)]
  by_cases h0 : c 0 = e <;> by_cases h1 : c 1 = e <;> simp only [h0, h1, if_true, if_false, one_mul, zero_mul]

theorem maskedMax_eq (l : Fin 16 → EReal) (p : Fin 11 → EReal) (h : ∀ e, l (row16 e) = p e) : maskedMax l = logitMax p := by
  show (Finset.univ : Finset (Fin 16)).sup (masked l) = (Finset.univ : Finset (Fin 11)).sup p
  refine le_antisymm (Finset.sup_le fun r _ => ?_) (Finset.sup_le fun e _ => ?_)
  · unfold masked
    split
    · next hr =>
      have := h ⟨r.val, hr⟩
      rw [show l r = p ⟨r.val, hr⟩ from this]
      exact Finset.le_sup (f := p) (Finset.mem_univ _)
    · exact bot_le
  · rw [← h e, show l (row16 e) = masked l (row16 e) from by unfold masked; rw [if_pos e.isLt]]
    exact Finset.le_sup (f := masked l) (Finset.mem_univ _)

/-- The softmax over sixteen masked logits is the softmax over the eleven. -/
theorem soft16 (l : Fin 16 → EReal) (p : Fin 11 → EReal) (h : ∀ e, l (row16 e) = p e) (e : Fin 11) :
    Ideal.div (Ideal.exp (masked l (row16 e) - maskedMax l)) (∑ r', Ideal.exp (masked l r' - maskedMax l)) = soft p e := by
  have hm : ∀ e, masked l (row16 e) = p e := fun e => by
    unfold masked; rw [if_pos e.isLt, h e]
  unfold soft
  rw [maskedMax_eq l p h, hm e]
  congr 1
  refine (Fintype.sum_of_injective row16 row16_injective _ _ (fun r hr => ?_) fun e => ?_).symm
  · have hr' : ¬ r.val < 11 := fun hh => hr ⟨⟨r.val, hh⟩, rfl⟩
    unfold masked
    rw [if_neg hr', EReal.bot_sub, Ideal.exp_bot]
  · rw [hm e]

/-! ## Words -/

theorem expert_word (w : BitVec 32) (h0 : 0 ≤ w.toInt) (h1 : w.toInt < 11) : w = BitVec.ofNat 32 (expert w).val := by
  have hc := BitVec.toInt_eq_toNat_cond w
  have hw := w.isLt
  have hn : w.toNat < 11 := by
    split at hc <;> omega
  apply BitVec.eq_of_toNat_eq
  rw [BitVec.toNat_ofNat]
  show w.toNat = (w.toNat % 11) % 2 ^ 32
  omega

/-! ## The row's step lies where the exponent is formed without overflow -/

theorem rowStep_range (r : Fin 2048 → EReal) (h : ∀ d, max (r d) (-(r d)) ≤ Ideal.ofBits .f32 0x7F7F0000#32) :
    0 ≤ rowStep r ∧ rowStep r < ((2 ^ 126 : ℝ) : EReal) := by
  obtain ⟨f, hf0, hf1, hf⟩ := ofBits_factor
  obtain ⟨M, hM0, hM1, hM⟩ := ofBits_greatest
  rw [hM] at h
  have hle : rowMax r ≤ (M : EReal) := Finset.sup_le (f := fun d => max (r d) (-(r d))) fun d _ => h d
  have hge : 0 ≤ rowMax r := by
    have h1 : max (r 0) (-(r 0)) ≤ rowMax r := Finset.le_sup (f := fun d => max (r d) (-(r d))) (Finset.mem_univ (0 : Fin 2048))
    refine le_trans ?_ h1
    rcases le_total 0 (r 0) with h2 | h2
    · exact le_max_of_le_left h2
    · exact le_max_of_le_right (EReal.neg_nonneg.2 h2)
  unfold rowStep
  rw [hf]
  generalize rowMax r = a at hle hge
  lift a to ℝ using ⟨(lt_of_le_of_lt hle (EReal.coe_lt_top _)).ne, (lt_of_lt_of_le EReal.bot_lt_zero hge).ne'⟩
  have ha : 0 ≤ a := by exact_mod_cast hge
  have hb : a ≤ M := by exact_mod_cast hle
  rw [← EReal.coe_mul]
  constructor
  · exact_mod_cast mul_nonneg ha hf0.le
  · refine EReal.coe_lt_coe_iff.2 ?_
    nlinarith [mul_le_mul hb hf1.le hf0.le hM0.le]

end Cert.Mix.Kern

end
-- ==== Proof.KernelBlock.lean ====
/- What the kernel's body leaves in each of its four output blocks, at an index, given how its input blocks are laid out. -/
module

public import proofs.«01_k».proof.Proof.Lanes
public import Idealize.ShloMosaic.Lib.Pipeline.ValueKit.Tiles

@[expose] public section

noncomputable section

namespace Cert.Mix.Kern

open Idealize.ShloMosaic Idealize.ShloMosaic.TcCoe Idealize.SL.Sem Cert.KernelIdeal Cert.KernelIdeal.Gen Cert.Mix

variable (x0 : Vec Ideal S1x512x2048 .bf16) (x1 : Vec Ideal S2048x5632 .fp8e4m3) (x2 : Vec Ideal S1x5632 .f32) (x3 : Vec Ideal S16x1 .f32)
  (x4 : Vec Ideal S1x2x512 .i32) (x5 : Vec Ideal S2048x512 .bf16) (x6 : Vec Ideal S512x5632 .bf16)

/-- Row `s` of the token block. -/
abbrev blockRow (x0 : Vec Ideal S1x512x2048 .bf16) (s : Fin 512) (d : Fin 2048) : EReal := x0 (ix3 (0 : Fin 1) s d)

theorem ld0 : View.ld x0 r0_0 = x0 := View.ld_unit_lit' inb_S1x512x2048_S1x512x2048_0_0_0 x0 (by decide)
theorem ld5 : View.ld x5 r0_1 = x5 := View.ld_unit_lit' inb_S2048x512_S2048x512_0_0 x5 (by decide)
theorem ld3 : View.ld x3 r0_3 = x3 := View.ld_unit_lit' inb_S16x1_S16x1_0_0 x3 (by decide)

theorem ld4_0 (s : Fin 512) : View.ld x4 r0_4 (ix3 (0 : Fin 1) (0 : Fin 1) s) = x4 (ix3 (0 : Fin 1) (0 : Fin 2) s) := by
  refine View.ld_unit_apply_of x4 _ _ _ _ _ fun a => ?_
  match a with
  | ⟨0, _⟩ => rfl
  | ⟨1, _⟩ => rfl
  | ⟨2, _⟩ => exact (Nat.zero_add _).symm

theorem ld4_1 (s : Fin 512) : View.ld x4 r0_5 (ix3 (0 : Fin 1) (0 : Fin 1) s) = x4 (ix3 (0 : Fin 1) (1 : Fin 2) s) := by
  refine View.ld_unit_apply_of x4 _ _ _ _ _ fun a => ?_
  match a with
  | ⟨0, _⟩ => rfl
  | ⟨1, _⟩ => rfl
  | ⟨2, _⟩ => exact (Nat.zero_add _).symm

/-! ## Scale and codes -/

theorem field_at (s : Fin 512) : k0_pay61 x0 x1 x2 x3 x4 x5 x6 (ix2 s (0 : Fin 1)) = fieldWord (rowStep (blockRow x0 s)) := by
  unfold k0_pay61
  rw [ld0, pay7_at, pay4_at]

theorem scale_at (s : Fin 512) : k0_pay64 x0 x1 x2 x3 x4 x5 x6 (ix2 s (0 : Fin 1)) = kernelScale (rowStep (blockRow x0 s)) := by
  unfold k0_pay64 k0_pay62
  rw [pay10_at, field_at]
  rfl

theorem code_at (s : Fin 512) (d : Fin 2048) (h : 0 ≤ rowStep (blockRow x0 s) ∧ rowStep (blockRow x0 s) < ((2 ^ 126 : ℝ) : EReal)) :
    k0_pay65 x0 x1 x2 x3 x4 x5 x6 (ix2 s d) = rowCode (blockRow x0 s) d := by
  unfold k0_pay65 k0_pay62
  rw [pay11_at, field_at]
  unfold rowCode
  rw [← kernelInverse_eq _ h.1 h.2]
  unfold k0_pay59 kernelInverse
  rw [ld0, pay2_at]

theorem out9_at (s : Fin 512) (d : Fin 2048) (h : 0 ≤ rowStep (blockRow x0 s) ∧ rowStep (blockRow x0 s) < ((2 ^ 126 : ℝ) : EReal)) :
    out0_9 x0 x1 x2 x3 x4 x5 x6 (ix3 (0 : Fin 1) s d) = rowCode (blockRow x0 s) d := by
  unfold out0_9
  refine View.canon_eq_of_allAt _ _ _ (cover0_9 _ _) (View.allAt_cons_unit _ _ _ _ _ (fun x hx => ?_) (View.allAt_nil _ _))
  have e : x = ix3 (0 : Fin 1) s d := by
    funext a
    refine Fin.ext ?_
    have ha := hx a
    match a with
    | ⟨0, _⟩ => exact ((Nat.zero_add _).symm.trans ha.symm)
    | ⟨1, _⟩ => exact ((Nat.zero_add _).symm.trans ha.symm)
    | ⟨2, _⟩ => exact ((Nat.zero_add _).symm.trans ha.symm)
  rw [e, cast12_at]
  exact code_at x0 x1 x2 x3 x4 x5 x6 s d h

theorem out10_at (s : Fin 512) (h : 0 ≤ rowStep (blockRow x0 s) ∧ rowStep (blockRow x0 s) < ((2 ^ 126 : ℝ) : EReal)) :
    out0_10 x0 x1 x2 x3 x4 x5 x6 (ix3 (0 : Fin 1) (0 : Fin 1) s) = scaleOf (rowStep (blockRow x0 s)) := by
  unfold out0_10
  refine View.canon_eq_of_allAt _ _ _ (cover0_10 _ _) (View.allAt_cons_unit _ _ _ _ _ (fun x hx => ?_) (View.allAt_nil _ _))
  have e : x = ix3 (0 : Fin 1) (0 : Fin 1) s := by
    funext a
    refine Fin.ext ?_
    have ha := hx a
    match a with
    | ⟨0, _⟩ => exact ((Nat.zero_add _).symm.trans ha.symm)
    | ⟨1, _⟩ => exact ((Nat.zero_add _).symm.trans ha.symm)
    | ⟨2, _⟩ => exact ((Nat.zero_add _).symm.trans ha.symm)
  rw [e, cast13_at, ← kernelScale_eq _ h.1 h.2]
  exact scale_at x0 x1 x2 x3 x4 x5 x6 s

/-! ## Gates -/

variable (R : Fin 2048 → Fin 11 → EReal) (b : Fin 11 → EReal) (c : Fin 512 → Fin 2 → Fin 11)

theorem lowRank_at (s l : Fin 512) : k0_pay60 x0 x1 x2 x3 x4 x5 x6 (ix2 s l) = ∑ d, blockRow x0 s d * x5 (ix2 d l) := by
  unfold k0_pay60
  rw [ld0, ld5, pay3_at]

theorem logit_at (hR : ∀ d e, x5 (ix2 d (⟨464 + e.val, by omega⟩ : Fin 512)) = R d e) (hb : ∀ e, x3 (ix2 (row16 e) (0 : Fin 1)) = b e)
    (s : Fin 512) (e : Fin 11) : k0_pay66 x0 x1 x2 x3 x4 x5 x6 (ix2 (row16 e) s) = logit (blockRow x0 s) R b e := by
  unfold k0_pay66 logit
  rw [pay14_at, ld3, hb, lowRank_at]
  congr 1
  refine Finset.sum_congr rfl fun d _ => ?_
  rw [← hR d e]

theorem chosen_at (hR : ∀ d e, x5 (ix2 d (⟨464 + e.val, by omega⟩ : Fin 512)) = R d e) (hb : ∀ e, x3 (ix2 (row16 e) (0 : Fin 1)) = b e)
    (s : Fin 512) (e : Fin 11) (i : Vec Ideal S1x1x512 .i32) (hi : i (ix3 (0 : Fin 1) (0 : Fin 1) s) = BitVec.ofNat 32 e.val) :
    k0_pay19 (F := Ideal) (k0_pay66 x0 x1 x2 x3 x4 x5 x6) (k0_pay63 x0 x1 x2 x3 x4 x5 x6) (k0_pay67 x0 x1 x2 x3 x4 x5 x6)
      (Scalar.ofBits .f32 0xFF800000#32) i (ix2 (0 : Fin 1) s) = soft (logit (blockRow x0 s) R b) e := by
  unfold k0_pay63 k0_pay67
  rw [pay19_at _ i _ _ s e hi, pay16_at]
  exact soft16 _ _ (fun e => logit_at x0 x1 x2 x3 x4 x5 x6 R b hR hb s e) e

theorem gate0_at (hR : ∀ d e, x5 (ix2 d (⟨464 + e.val, by omega⟩ : Fin 512)) = R d e) (hb : ∀ e, x3 (ix2 (row16 e) (0 : Fin 1)) = b e)
    (hc : ∀ k s, x4 (ix3 (0 : Fin 1) k s) = BitVec.ofNat 32 (c s k).val) (s : Fin 512) :
    k0_pay68 x0 x1 x2 x3 x4 x5 x6 (ix2 (0 : Fin 1) s) = gate (soft (logit (blockRow x0 s) R b)) (c s) 0 := by
  unfold k0_pay68 gate
  rw [pay22_at, pay20_eq, Fin.sum_univ_two,
    chosen_at x0 x1 x2 x3 x4 x5 x6 R b hR hb s (c s 0) _ ((ld4_0 x4 s).trans (hc 0 s)),
    chosen_at x0 x1 x2 x3 x4 x5 x6 R b hR hb s (c s 1) _ ((ld4_1 x4 s).trans (hc 1 s))]

theorem gate1_at (hR : ∀ d e, x5 (ix2 d (⟨464 + e.val, by omega⟩ : Fin 512)) = R d e) (hb : ∀ e, x3 (ix2 (row16 e) (0 : Fin 1)) = b e)
    (hc : ∀ k s, x4 (ix3 (0 : Fin 1) k s) = BitVec.ofNat 32 (c s k).val) (s : Fin 512) :
    k0_pay69 x0 x1 x2 x3 x4 x5 x6 (ix2 (0 : Fin 1) s) = gate (soft (logit (blockRow x0 s) R b)) (c s) 1 := by
  unfold k0_pay69 gate
  rw [pay23_at, pay20_eq, Fin.sum_univ_two,
    chosen_at x0 x1 x2 x3 x4 x5 x6 R b hR hb s (c s 0) _ ((ld4_0 x4 s).trans (hc 0 s)),
    chosen_at x0 x1 x2 x3 x4 x5 x6 R b hR hb s (c s 1) _ ((ld4_1 x4 s).trans (hc 1 s))]

theorem out8_at (hR : ∀ d e, x5 (ix2 d (⟨464 + e.val, by omega⟩ : Fin 512)) = R d e) (hb : ∀ e, x3 (ix2 (row16 e) (0 : Fin 1)) = b e)
    (hc : ∀ k s, x4 (ix3 (0 : Fin 1) k s) = BitVec.ofNat 32 (c s k).val) (k : Fin 2) (s : Fin 512) :
    out0_8 x0 x1 x2 x3 x4 x5 x6 (ix3 (0 : Fin 1) k s) = gate (soft (logit (blockRow x0 s) R b)) (c s) k := by
  unfold out0_8
  refine View.canon_eq_of_allAt _ _ _ (cover0_8 _ _ _)
    (View.allAt_cons_unit _ _ _ _ _ (fun x hx => ?_) (View.allAt_cons_unit _ _ _ _ _ (fun x hx => ?_) (View.allAt_nil _ _)))
  · have h1 : k.val = 1 + (x 1).val := hx 1
    have h2 : s.val = 0 + (x 2).val := hx 2
    have e : x = ix3 (0 : Fin 1) (0 : Fin 1) s := by
      funext a
      refine Fin.ext ?_
      match a with
      | ⟨0, _⟩ => exact Nat.lt_one_iff.1 (x 0).isLt
      | ⟨1, _⟩ => exact Nat.lt_one_iff.1 (x 1).isLt
      | ⟨2, _⟩ => show (x 2).val = s.val; omega
    have hk : k = 1 := Fin.ext (by have := k.isLt; show k.val = 1; omega)
    rw [e, hk, pay25_at]
    exact gate1_at x0 x1 x2 x3 x4 x5 x6 R b c hR hb hc s
  · have h1 : k.val = 0 + (x 1).val := hx 1
    have h2 : s.val = 0 + (x 2).val := hx 2
    have h3 : (x 1).val = 0 := Nat.lt_one_iff.1 (x 1).isLt
    have e : x = ix3 (0 : Fin 1) (0 : Fin 1) s := by
      funext a
      refine Fin.ext ?_
      match a with
      | ⟨0, _⟩ => exact Nat.lt_one_iff.1 (x 0).isLt
      | ⟨1, _⟩ => exact h3
      | ⟨2, _⟩ => show (x 2).val = s.val; omega
    have hk : k = 0 := Fin.ext (by show k.val = 0; omega)
    rw [e, hk, pay24_at]
    exact gate0_at x0 x1 x2 x3 x4 x5 x6 R b c hR hb hc s

/-! ## The result -/

variable (A : Fin 11 → Fin 2048 → Fin 40 → EReal) (B : Fin 11 → Fin 40 → Fin 5632 → EReal)

/-- The gates of row `s`. -/
abbrev rowGates (s : Fin 512) : Fin 2 → EReal := fun k => gate (soft (logit (blockRow x0 s) R b)) (c s) k

theorem lanes_at (l : Fin 512) : k0_pay80 x0 x1 x2 x3 x4 x5 x6 (ix2 (0 : Fin 1) l) = (((laneWord l).toInt : ℝ) : EReal) := by
  unfold k0_pay80 k0_pay75 k0_pay76 k0_pay77 k0_pay78 k0_pay79
  exact pay39_at l

theorem hidden_off (s l : Fin 512) (h : ¬ laneExpert l < 11) : k0_pay82 x0 x1 x2 x3 x4 x5 x6 (ix2 s l) = 0 := by
  unfold k0_pay82
  rw [pay41_at, lanes_at, toInt_noLane l h, if_neg]
  rw [not_le]
  exact EReal.coe_lt_coe_iff.2 (by norm_num)

theorem hidden_at (hR : ∀ d e, x5 (ix2 d (⟨464 + e.val, by omega⟩ : Fin 512)) = R d e) (hb : ∀ e, x3 (ix2 (row16 e) (0 : Fin 1)) = b e)
    (hc : ∀ k s, x4 (ix3 (0 : Fin 1) k s) = BitVec.ofNat 32 (c s k).val) (hA : ∀ d e q, x5 (ix2 d (lane e q)) = A e d q)
    (s : Fin 512) (e : Fin 11) (q : Fin 40) :
    k0_pay82 x0 x1 x2 x3 x4 x5 x6 (ix2 s (lane e q)) = hidden (blockRow x0 s) A (weight (rowGates x0 R b c s) (c s)) e q := by
  unfold k0_pay82
  have h0 : (0 : EReal) ≤ ((((e.val : ℤ) : ℝ)) : EReal) := EReal.coe_le_coe_iff.2 (by positivity)
  rw [pay41_at, lanes_at, toInt_lane, if_pos h0, lowRank_at]
  unfold k0_pay81
  rw [pay40_at, show k0_pay39 (F := Ideal) (k0_pay75 x0 x1 x2 x3 x4 x5 x6) (k0_pay76 x0 x1 x2 x3 x4 x5 x6) (k0_pay77 x0 x1 x2 x3 x4 x5 x6)
    (k0_pay78 x0 x1 x2 x3 x4 x5 x6) (k0_pay79 x0 x1 x2 x3 x4 x5 x6) (ix2 (0 : Fin 1) (lane e q)) = _ from lanes_at x0 x1 x2 x3 x4 x5 x6 (lane e q), toInt_lane]
  unfold k0_pay73 k0_pay74
  rw [pay30_at, pay31_at, pay32_at, pay33_at]
  unfold k0_pay71 k0_pay72
  rw [pay27_at, pay28_at, ld4_0, ld4_1, hc, hc, toInt_expert, toInt_expert,
    gate0_at x0 x1 x2 x3 x4 x5 x6 R b c hR hb hc s, gate1_at x0 x1 x2 x3 x4 x5 x6 R b c hR hb hc s,
    weight_doubled (rowGates x0 R b c s) (c s) e]
  unfold hidden
  simp only [hA]

theorem tile_at (sc : FVec Ideal S512x1 .f32) (cd : FVec Ideal S512x2048 .fp8e4m3) (hb : FVec Ideal S512x512 .bf16) (off : ℕ)
    (i1 : ∀ a, (![0, off] : Fin 2 → ℕ) a + S2048x512.size a ≤ S2048x5632.size a) (i6 : ∀ a, (![0, off] : Fin 2 → ℕ) a + S512x512.size a ≤ S512x5632.size a)
    (i2 : ∀ a, (![0, off] : Fin 2 → ℕ) a + S1x512.size a ≤ S1x5632.size a) (s o' : Fin 512) (o : Fin 5632) (h : o.val = off + o'.val) :
    k0_pay1 (F := Ideal) sc cd hb (View.ld x1 (Rect.unit (s := S2048x5632) ![0, off] S2048x512.size i1)) (View.ld x6 (Rect.unit (s := S512x5632) ![0, off] S512x512.size i6))
      (View.ld x2 (Rect.unit (s := S1x5632) ![0, off] S1x512.size i2)) (ix3 (0 : Fin 1) s o')
      = (∑ d : Fin 2048, cd (ix2 s d) * x1 (ix2 d o)) * sc (ix2 s (0 : Fin 1)) * x2 (ix2 (0 : Fin 1) o) + ∑ l : Fin 512, hb (ix2 s l) * x6 (ix2 l o) := by
  rw [pay1_at]
  have e1 : ∀ d : Fin 2048, View.ld x1 (Rect.unit (s := S2048x5632) ![0, off] S2048x512.size i1) (ix2 d o') = x1 (ix2 d o) := fun d =>
    View.ld_unit_apply_of x1 _ _ _ _ _ fun a => by
      match a with
      | ⟨0, _⟩ => exact (Nat.zero_add _).symm
      | ⟨1, _⟩ => exact h
  have e6 : ∀ l : Fin 512, View.ld x6 (Rect.unit (s := S512x5632) ![0, off] S512x512.size i6) (ix2 l o') = x6 (ix2 l o) := fun l =>
    View.ld_unit_apply_of x6 _ _ _ _ _ fun a => by
      match a with
      | ⟨0, _⟩ => exact (Nat.zero_add _).symm
      | ⟨1, _⟩ => exact h
  have e2 : View.ld x2 (Rect.unit (s := S1x5632) ![0, off] S1x512.size i2) (ix2 (0 : Fin 1) o') = x2 (ix2 (0 : Fin 1) o) :=
    View.ld_unit_apply_of x2 _ _ _ _ _ fun a => by
      match a with
      | ⟨0, _⟩ => rfl
      | ⟨1, _⟩ => exact h
  simp only [e1, e6, e2]

/-- The value that every tile of the result block has at `(s, o)`. -/
def tileValue (s : Fin 512) (o : Fin 5632) : EReal :=
  (∑ d : Fin 2048, k0_pay65 x0 x1 x2 x3 x4 x5 x6 (ix2 s d) * x1 (ix2 d o)) * k0_pay64 x0 x1 x2 x3 x4 x5 x6 (ix2 s (0 : Fin 1)) * x2 (ix2 (0 : Fin 1) o)
        + ∑ l : Fin 512, k0_pay82 x0 x1 x2 x3 x4 x5 x6 (ix2 s l) * x6 (ix2 l o)

theorem out7_read (s : Fin 512) (o : Fin 5632) :
    out0_7 x0 x1 x2 x3 x4 x5 x6 (ix3 (0 : Fin 1) s o)
      = tileValue x0 x1 x2 x3 x4 x5 x6 s o := by
  have key : ∀ (off : ℕ) (i1 : ∀ a, (![0, off] : Fin 2 → ℕ) a + S2048x512.size a ≤ S2048x5632.size a) (i6 : ∀ a, (![0, off] : Fin 2 → ℕ) a + S512x512.size a ≤ S512x5632.size a)
      (i2 : ∀ a, (![0, off] : Fin 2 → ℕ) a + S1x512.size a ≤ S1x5632.size a) (x : S1x512x512.Idx)
      (_ : ∀ a : Fin 3, ((ix3 (0 : Fin 1) s o : S1x512x5632.Idx) a : ℕ) = (![0, 0, off] : Fin 3 → ℕ) a + x a),
      k0_pay1 (F := Ideal) (k0_pay64 x0 x1 x2 x3 x4 x5 x6) (k0_pay65 x0 x1 x2 x3 x4 x5 x6) (k0_pay82 x0 x1 x2 x3 x4 x5 x6)
        (View.ld x1 (Rect.unit (s := S2048x5632) ![0, off] S2048x512.size i1)) (View.ld x6 (Rect.unit (s := S512x5632) ![0, off] S512x512.size i6))
        (View.ld x2 (Rect.unit (s := S1x5632) ![0, off] S1x512.size i2)) x = tileValue x0 x1 x2 x3 x4 x5 x6 s o := by
    intro off i1 i6 i2 x hx
    have h1 : s.val = 0 + (x 1).val := hx 1
    have h2 : o.val = off + (x 2).val := hx 2
    have e : x = ix3 (0 : Fin 1) s (x 2) := by
      funext a
      refine Fin.ext ?_
      match a with
      | ⟨0, _⟩ => exact Nat.lt_one_iff.1 (x 0).isLt
      | ⟨1, _⟩ => show (x 1).val = s.val; omega
      | ⟨2, _⟩ => rfl
    rw [e]
    exact tile_at x1 x2 x6 _ _ _ off i1 i6 i2 s (x 2) o h2
  unfold out0_7
  refine View.canon_eq_of_allAt _ _ _ (cover0_7 _ _ _ _ _ _ _ _ _ _ _ _) ?_
  refine View.allAt_cons_unit _ _ _ _ _ (fun x hx => key 5120 _ _ _ x hx) ?_
  refine View.allAt_cons_unit _ _ _ _ _ (fun x hx => key 4608 _ _ _ x hx) ?_
  refine View.allAt_cons_unit _ _ _ _ _ (fun x hx => key 4096 _ _ _ x hx) ?_
  refine View.allAt_cons_unit _ _ _ _ _ (fun x hx => key 3584 _ _ _ x hx) ?_
  refine View.allAt_cons_unit _ _ _ _ _ (fun x hx => key 3072 _ _ _ x hx) ?_
  refine View.allAt_cons_unit _ _ _ _ _ (fun x hx => key 2560 _ _ _ x hx) ?_
  refine View.allAt_cons_unit _ _ _ _ _ (fun x hx => key 2048 _ _ _ x hx) ?_
  refine View.allAt_cons_unit _ _ _ _ _ (fun x hx => key 1536 _ _ _ x hx) ?_
  refine View.allAt_cons_unit _ _ _ _ _ (fun x hx => key 1024 _ _ _ x hx) ?_
  refine View.allAt_cons_unit _ _ _ _ _ (fun x hx => (congrFun (pay45_eq _ _ _ _ _ _ _ _ _ _).1 x).trans (key 512 _ _ _ x hx)) ?_
  refine View.allAt_cons_unit _ _ _ _ _ (fun x hx => (congrFun (pay45_eq _ _ _ _ _ _ _ _ _ _).2 x).trans (key 0 _ _ _ x hx)) ?_
  exact View.allAt_nil _ _

theorem out7_at (hR : ∀ d e, x5 (ix2 d (⟨464 + e.val, by omega⟩ : Fin 512)) = R d e) (hb : ∀ e, x3 (ix2 (row16 e) (0 : Fin 1)) = b e)
    (hc : ∀ k s, x4 (ix3 (0 : Fin 1) k s) = BitVec.ofNat 32 (c s k).val) (hA : ∀ d e q, x5 (ix2 d (lane e q)) = A e d q)
    (hB : ∀ e q o, x6 (ix2 (lane e q) o) = B e q o)
    (s : Fin 512) (o : Fin 5632) (h : 0 ≤ rowStep (blockRow x0 s) ∧ rowStep (blockRow x0 s) < ((2 ^ 126 : ℝ) : EReal)) :
    out0_7 x0 x1 x2 x3 x4 x5 x6 (ix3 (0 : Fin 1) s o)
      = rowOut (rowCode (blockRow x0 s)) (scaleOf (rowStep (blockRow x0 s))) (hidden (blockRow x0 s) A (weight (rowGates x0 R b c s) (c s)))
        (fun d => x1 (ix2 d o)) (x2 (ix2 (0 : Fin 1) o)) (fun e q => B e q o) := by
  rw [out7_read]
  unfold tileValue
  rw [scale_at, kernelScale_eq _ h.1 h.2,
    sum_lanes (fun l => k0_pay82 x0 x1 x2 x3 x4 x5 x6 (ix2 s l) * x6 (ix2 l o)) fun l hl => by rw [hidden_off x0 x1 x2 x3 x4 x5 x6 s l hl, zero_mul]]
  unfold rowOut
  congr 1
  · congr 2
    exact Finset.sum_congr rfl fun d _ => by rw [code_at x0 x1 x2 x3 x4 x5 x6 s d h]
  · refine Finset.sum_congr rfl fun e _ => Finset.sum_congr rfl fun q _ => ?_
    rw [hidden_at x0 x1 x2 x3 x4 x5 x6 R b c A hR hb hc hA s e q, hB]

end Cert.Mix.Kern

end
-- ==== Proof.Arrays.lean ====
/- The four results of the layer, at an index, as functions of the arguments read at indices. Nothing here mentions either program. -/
module

public import proofs.«01_k».proof.Proof.Spec

@[expose] public section

noncomputable section

namespace Cert.Mix

open Idealize.ShloMosaic

variable (X : Fin 24 → Fin 512 → Fin 2048 → EReal) (W : Fin 2048 → Fin 5632 → EReal) (ws : Fin 5632 → EReal)
  (R : Fin 2048 → Fin 11 → EReal) (b : Fin 11 → EReal) (C : Fin 24 → Fin 512 → Fin 2 → Fin 11)
  (A : Fin 11 → Fin 2048 → Fin 40 → EReal) (B : Fin 11 → Fin 40 → Fin 5632 → EReal)

/-- The code of token `(i, s)` at position `d`. -/
def codeAt (i : Fin 24) (s : Fin 512) (d : Fin 2048) : EReal := rowCode (X i s) d

/-- The scale of token `(i, s)`. -/
def scaleAt (i : Fin 24) (s : Fin 512) : EReal := scaleOf (rowStep (X i s))

/-- Gate `k` of token `(i, s)`. -/
def gateAt (i : Fin 24) (s : Fin 512) (k : Fin 2) : EReal := gate (soft (logit (X i s) R b)) (C i s) k

/-- The layer's output for token `(i, s)` at column `o`. -/
def outAt (i : Fin 24) (s : Fin 512) (o : Fin 5632) : EReal :=
  rowOut (rowCode (X i s)) (scaleOf (rowStep (X i s))) (hidden (X i s) A (weight (fun k => gateAt X R b C i s k) (C i s)))
    (fun d => W d o) (ws o) (fun e q => B e q o)

/-- What the precondition gives: every token's magnitudes are at most the greatest finite bfloat16. -/
def Bounded : Prop := ∀ i s d, max (X i s d) (-(X i s d)) ≤ Ideal.ofBits .f32 0x7F7F0000#32

end Cert.Mix

end
-- ==== Proof.KernelInputs.lean ====
/- The kernel's input blocks at a grid point, at an index. -/
module

public import proofs.«01_k».proof.Proof.KernelBlock
public import proofs.«01_k».proof.Proof.Arrays
public import Idealize.ShloMosaic.Lib.Pipeline.ValueKit.Geometry

@[expose] public section

noncomputable section

namespace Cert.Mix.Kern

open Idealize.ShloMosaic Idealize.ShloMosaic.TcCoe Idealize.SL.Sem Cert.KernelIdeal Cert.KernelIdeal.Gen Cert.Mix
open Idealize.ShloMosaic.Pipeline (Dat)

variable (m : (ℓ : Loc nD τ sig) → Buf (Elt Ideal) ℓ) (c : Dev nD)

/-! ## The arguments read at indices -/

abbrev aX : Fin 24 → Fin 512 → Fin 2048 → EReal := fun i s d => kX m c (ix3 i s d)
abbrev aW : Fin 2048 → Fin 5632 → EReal := fun d o => kW m c (ix2 d o)
abbrev aWs : Fin 5632 → EReal := fun o => kWs m c (ix1 o)
abbrev aR : Fin 2048 → Fin 11 → EReal := fun d e => kRw m c (ix2 d e)
abbrev aRb : Fin 11 → EReal := fun e => kRb m c (ix1 e)
abbrev aC : Fin 24 → Fin 512 → Fin 2 → Fin 11 := fun i s k => expert (kIdx m c (ix3 i s k))
abbrev aA : Fin 11 → Fin 2048 → Fin 40 → EReal := fun e d q => kA m c (ix3 e d q)
abbrev aB : Fin 11 → Fin 40 → Fin 5632 → EReal := fun e q o => kB m c (ix3 e q o)

/-- Every index names one of the eleven experts. -/
def InRange : Prop := ∀ i s k, 0 ≤ (kIdx m c (ix3 i s k)).toInt ∧ (kIdx m c (ix3 i s k)).toInt < 11

/-! ## Where the blocks lie -/

theorem index0 : ∀ t : Fin cfg0.N, win0_0.index t = ![t.val, 0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0, 0] := (by decide +kernel : ∀ t : Fin grid0.N, _)
theorem index8 : ∀ t : Fin cfg0.N, win0_8.index t = ![t.val, 0, 0] := (by decide +kernel : ∀ t : Fin grid0.N, _)
theorem index9 : ∀ t : Fin cfg0.N, win0_9.index t = ![t.val, 0, 0] := (by decide +kernel : ∀ t : Fin grid0.N, _)
theorem index10 : ∀ t : Fin cfg0.N, win0_10.index t = ![t.val, 0, 0] := (by decide +kernel : ∀ t : Fin grid0.N, _)

/-- The batch of a grid point. -/
abbrev batch (t : Fin cfg0.N) : Fin 24 := ⟨t.val, t.isLt⟩

theorem block0_at (t : Fin cfg0.N) (s : Fin 512) (d : Fin 2048) : iblk m c 0 t (ix3 (0 : Fin 1) s d) = aX m c (batch t) s d := by
  have h : ((win0_0.blk t).view.emb (ix3 (0 : Fin 1) s d) : S24x512x2048.Idx) = ix3 (batch t) s d := by
    blk_ext [index0]
  show V m c main_arg0 ((win0_0.blk t).view.emb (ix3 (0 : Fin 1) s d)) = _
  rw [h, V_main_arg0]

theorem block1_at (t : Fin cfg0.N) (d : Fin 2048) (o : Fin 5632) : iblk m c 1 t (ix2 d o) = aW m c d o := by
  have h : ((win0_1.blk t).view.emb (ix2 d o) : S2048x5632.Idx) = ix2 d o := by
    blk_ext [index1]
  show V m c main_arg1 ((win0_1.blk t).view.emb (ix2 d o)) = _
  rw [h, V_main_arg1]

theorem block2_at (t : Fin cfg0.N) (o : Fin 5632) : iblk m c 2 t (ix2 (0 : Fin 1) o) = aWs m c o := by
  have h : ((win0_2.blk t).view.emb (ix2 (0 : Fin 1) o) : S1x5632.Idx) = ix2 (0 : Fin 1) o := by
    blk_ext [index2]
  show V m c main_v14 ((win0_2.blk t).view.emb (ix2 (0 : Fin 1) o)) = _
  rw [h]
  refine (congrFun (host_ws m c) _).trans ?_
  pointwise

theorem block3_at (t : Fin cfg0.N) (e : Fin 11) : iblk m c 3 t (ix2 (row16 e) (0 : Fin 1)) = aRb m c e := by
  have h : ((win0_3.blk t).view.emb (ix2 (row16 e) (0 : Fin 1)) : S16x1.Idx) = ix2 (row16 e) (0 : Fin 1) := by
    blk_ext [index3]
  show V m c main_v12 ((win0_3.blk t).view.emb (ix2 (row16 e) (0 : Fin 1))) = _
  rw [h]
  exact (congrFun (host_bias m c) _).trans (biasColumn_at _ e)

theorem block4_at (hI : InRange m c) (t : Fin cfg0.N) (k : Fin 2) (s : Fin 512) :
    iblk m c 4 t (ix3 (0 : Fin 1) k s) = BitVec.ofNat 32 (aC m c (batch t) s k).val := by
  have h : ((win0_4.blk t).view.emb (ix3 (0 : Fin 1) k s) : S24x2x512.Idx) = ix3 (batch t) k s := by
    blk_ext [index4]
  show V m c main_v13 ((win0_4.blk t).view.emb (ix3 (0 : Fin 1) k s)) = _
  rw [h]
  refine (congrFun (host_idx m c) _).trans ?_
  refine Eq.trans ?_ (expert_word _ (hI (batch t) s k).1 (hI (batch t) s k).2)
  pointwise
  rfl

theorem block5_at (t : Fin cfg0.N) (d : Fin 2048) (l : Fin 512) : iblk m c 5 t (ix2 d l) = laneRouter (V m c main_v4) (kRw m c) (ix2 d l) := by
  have h : ((win0_5.blk t).view.emb (ix2 d l) : S2048x512.Idx) = ix2 d l := by
    blk_ext [index5]
  show V m c main_v6 ((win0_5.blk t).view.emb (ix2 d l)) = _
  rw [h]
  exact congrFun (host_a m c) _

theorem block5_router (t : Fin cfg0.N) (d : Fin 2048) (e : Fin 11) :
    iblk m c 5 t (ix2 d (⟨464 + e.val, by omega⟩ : Fin 512)) = aR m c d e := by
  rw [block5_at, laneRouter_at]

theorem block5_lane (t : Fin cfg0.N) (d : Fin 2048) (e : Fin 11) (q : Fin 40) : iblk m c 5 t (ix2 d (lane e q)) = aA m c e d q := by
  have hl : (lane e q).val < 464 := by
    show e.val / 3 * 128 + e.val % 3 * 40 + q.val < 464
    have := e.isLt; have := q.isLt; omega
  rw [block5_at, laneRouter_off _ _ _ _ hl, host_a4, laneA4_at, host_a12, laneA12_at]

theorem block6_at (t : Fin cfg0.N) (e : Fin 11) (q : Fin 40) (o : Fin 5632) : iblk m c 6 t (ix2 (lane e q) o) = aB m c e q o := by
  have h : ((win0_6.blk t).view.emb (ix2 (lane e q) o) : S512x5632.Idx) = ix2 (lane e q) o := by
    blk_ext [index6]
  show V m c main_v10 ((win0_6.blk t).view.emb (ix2 (lane e q) o)) = _
  rw [h]
  refine (congrFun (host_b m c) _).trans ?_
  rw [laneB4_at, host_b12, laneB12_at]

theorem row_eq (t : Fin cfg0.N) (s : Fin 512) : blockRow (iblk m c 0 t) s = aX m c (batch t) s := funext fun d => block0_at m c t s d

theorem row_range (hX : Bounded (aX m c)) (t : Fin cfg0.N) (s : Fin 512) :
    0 ≤ rowStep (blockRow (iblk m c 0 t) s) ∧ rowStep (blockRow (iblk m c 0 t) s) < ((2 ^ 126 : ℝ) : EReal) := by
  rw [row_eq]
  exact rowStep_range _ (hX (batch t) s)

end Cert.Mix.Kern

end
-- ==== Proof.Precondition.lean ====
/- What the precondition gives of the kernel's arguments. -/
module

public import proofs.«01_k».proof.Defs
public import proofs.«01_k».proof.Proof.Gen.Pre_finite_and_in_range
public import proofs.«01_k».proof.Proof.KernelInputs
public import Idealize.ShloMosaic.Lib.ReduceAll

@[expose] public section

noncomputable section

namespace Cert.Mix.Kern

open Idealize.ShloMosaic Idealize.ShloMosaic.TcCoe Idealize.SL.Sem Cert.Mix

instance : Subsingleton Cert.Pre_finite_and_in_range.S_.Idx := ⟨fun a b => funext fun x => x.elim0⟩

theorem le_of_cmpf {a b : EReal} (h : FloatOps.cmpf (F := Ideal) (φ := .f32) .ole a b = 1#1) : a ≤ b := by
  by_contra hn
  have h' : BitVec.ofBool (decide (a ≤ b)) = 1#1 := h
  rw [decide_eq_false hn] at h'
  exact absurd h' (by decide)

/-- The predicate's two halves: bounded tokens, and indices that name an expert. -/
theorem of_fn (facts : Cert.Pre_finite_and_in_range.Facts) (X : FVec Ideal Cert.Pre_finite_and_in_range.S24x512x2048 .bf16) (W : FVec Ideal Cert.Pre_finite_and_in_range.S2048x5632 .fp8e4m3)
    (ws : FVec Ideal Cert.Pre_finite_and_in_range.S5632 .f32) (R : FVec Ideal Cert.Pre_finite_and_in_range.S2048x11 .bf16) (b : FVec Ideal Cert.Pre_finite_and_in_range.S11 .f32)
    (I : IVec Cert.Pre_finite_and_in_range.S24x512x2 32) (A : FVec Ideal Cert.Pre_finite_and_in_range.S11x2048x40 .bf16) (B : FVec Ideal Cert.Pre_finite_and_in_range.S11x40x5632 .bf16)
    (h : Cert.Pre_finite_and_in_range.fn (F := Ideal) X W ws R b I A B = fun _ => 1#1) :
    (∀ j, max (X j) (-(X j)) ≤ Ideal.ofBits .f32 0x7F7F0000#32) ∧ ∀ j, 0 ≤ (I j).toInt ∧ (I j).toInt < 11 := by
  have e := congrFun h (fun a => a.elim0)
  obtain ⟨e1, e2⟩ := IntOp.andi_eq_one.1 e
  constructor
  · intro j
    exact le_of_cmpf (Host.reduce_andi_all _ _ _ _ _ e1 j)
  · intro j
    obtain ⟨a1, a2⟩ := IntOp.andi_eq_one.1 (Host.reduce_andi_all _ _ _ _ _ e2 j)
    exact ⟨IntOp.cmpi_sge.1 a1, IntOp.cmpi_slt.1 a2⟩

variable (m : (ℓ : Loc Cert.KernelIdeal.nD Cert.KernelIdeal.τ Cert.KernelIdeal.sig) → Buf (Elt Ideal) ℓ)

theorem bounded_of_pre (facts : Cert.Pre_finite_and_in_range.Facts) (h : Cert.Pre_KernelIdeal_finite_and_in_range m) (c : Dev Cert.KernelIdeal.nD) : Bounded (aX m c) :=
  fun i s d => (of_fn facts _ _ _ _ _ _ _ _ (h c)).1 (ix3 i s d)

theorem range_of_pre (facts : Cert.Pre_finite_and_in_range.Facts) (h : Cert.Pre_KernelIdeal_finite_and_in_range m) (c : Dev Cert.KernelIdeal.nD) : InRange m c :=
  fun i s k => (of_fn facts _ _ _ _ _ _ _ _ (h c)).2 (ix3 i s k)

end Cert.Mix.Kern

end
-- ==== Proof.KernelArray.lean ====
/- The kernel's four arrays after its grid, at an index. -/
module

public import proofs.«01_k».proof.Proof.KernelInputs

@[expose] public section

noncomputable section

namespace Cert.Mix.Kern

open Idealize.ShloMosaic Idealize.ShloMosaic.TcCoe Idealize.SL.Sem Cert.KernelIdeal Cert.KernelIdeal.Gen Cert.Mix
open Idealize.ShloMosaic.Pipeline (Dat)

variable (m : (ℓ : Loc nD τ sig) → Buf (Elt Ideal) ℓ) (c : Dev nD)

/-! ## What each grid point writes back -/

theorem codes_after (hX : Bounded (aX m c)) (t : Fin cfg0.N) (s : Fin 512) (d : Fin 2048) :
    (dats m 0 c).after 9 t (ix3 (0 : Fin 1) s d) = codeAt (aX m c) (batch t) s d := by
  rw [after0_9]
  refine (out9_at _ _ _ _ _ _ _ s d (row_range m c hX t s)).trans ?_
  rw [row_eq]
  rfl

theorem scale_after (hX : Bounded (aX m c)) (t : Fin cfg0.N) (s : Fin 512) :
    (dats m 0 c).after 10 t (ix3 (0 : Fin 1) (0 : Fin 1) s) = scaleAt (aX m c) (batch t) s := by
  rw [after0_10]
  refine (out10_at _ _ _ _ _ _ _ s (row_range m c hX t s)).trans ?_
  rw [row_eq]
  rfl

theorem gates_after (hI : InRange m c) (t : Fin cfg0.N) (k : Fin 2) (s : Fin 512) :
    (dats m 0 c).after 8 t (ix3 (0 : Fin 1) k s) = gateAt (aX m c) (aR m c) (aRb m c) (aC m c) (batch t) s k := by
  rw [after0_8]
  refine (out8_at _ _ _ _ _ _ _ (aR m c) (aRb m c) (aC m c (batch t)) (block5_router m c t) (block3_at m c t) (block4_at m c hI t) k s).trans ?_
  rw [row_eq]
  rfl

theorem out_after (hX : Bounded (aX m c)) (hI : InRange m c) (t : Fin cfg0.N) (s : Fin 512) (o : Fin 5632) :
    (dats m 0 c).after 7 t (ix3 (0 : Fin 1) s o)
      = outAt (aX m c) (aW m c) (aWs m c) (aR m c) (aRb m c) (aC m c) (aA m c) (aB m c) (batch t) s o := by
  rw [after0_7]
  refine (out7_at _ _ _ _ _ _ _ (aR m c) (aRb m c) (aC m c (batch t)) (aA m c) (aB m c) (block5_router m c t) (block3_at m c t) (block4_at m c hI t)
    (block5_lane m c t) (block6_at m c t) s o (row_range m c hX t s)).trans ?_
  have e1 : (fun d => iblk m c 1 t (ix2 d o)) = fun d => aW m c d o := funext fun d => block1_at m c t d o
  have e2 : iblk m c 2 t (ix2 (0 : Fin 1) o) = aWs m c o := block2_at m c t o
  unfold rowGates
  rw [row_eq, e2]
  refine (congrArg (fun f => rowOut _ _ _ f _ _) e1).trans ?_
  rfl

/-! ## The arrays -/

theorem codes_array (hX : Bounded (aX m c)) :
    (dats m 0 c).arrAt 9 cfg0.N = fun j : S24x512x2048.Idx => codeAt (aX m c) (j 0) (j 1) (j 2) := by
  refine (dats m 0 c).arrAt_eq_of_covers 9 _ (by decide +kernel) fun t hf y => ?_
  have h : ((win0_9.blk t).view.emb y : S24x512x2048.Idx) = ix3 (batch t) (y 1) (y 2) := by
    blk_ext [index9]
  have hy : (y : S1x512x2048.Idx) = ix3 (0 : Fin 1) (y 1) (y 2) := by
    blk_ext
  exact ((congrArg ((dats m 0 c).after 9 t) hy).trans (codes_after m c hX t (y 1) (y 2))).trans
    (congrArg (fun j : S24x512x2048.Idx => codeAt (aX m c) (j 0) (j 1) (j 2)) h).symm

theorem scale_array (hX : Bounded (aX m c)) :
    (dats m 0 c).arrAt 10 cfg0.N = fun j : S24x1x512.Idx => scaleAt (aX m c) (j 0) (j 2) := by
  refine (dats m 0 c).arrAt_eq_of_covers 10 _ (by decide +kernel) fun t hf y => ?_
  have h : ((win0_10.blk t).view.emb y : S24x1x512.Idx) = ix3 (batch t) (0 : Fin 1) (y 2) := by
    blk_ext [index10]
  have hy : (y : S1x1x512.Idx) = ix3 (0 : Fin 1) (0 : Fin 1) (y 2) := by
    blk_ext
  exact ((congrArg ((dats m 0 c).after 10 t) hy).trans (scale_after m c hX t (y 2))).trans
    (congrArg (fun j : S24x1x512.Idx => scaleAt (aX m c) (j 0) (j 2)) h).symm

theorem gates_array (hI : InRange m c) :
    (dats m 0 c).arrAt 8 cfg0.N = fun j : S24x2x512.Idx => gateAt (aX m c) (aR m c) (aRb m c) (aC m c) (j 0) (j 2) (j 1) := by
  refine (dats m 0 c).arrAt_eq_of_covers 8 _ (by decide +kernel) fun t hf y => ?_
  have h : ((win0_8.blk t).view.emb y : S24x2x512.Idx) = ix3 (batch t) (y 1) (y 2) := by
    blk_ext [index8]
  have hy : (y : S1x2x512.Idx) = ix3 (0 : Fin 1) (y 1) (y 2) := by
    blk_ext
  exact ((congrArg ((dats m 0 c).after 8 t) hy).trans (gates_after m c hI t (y 1) (y 2))).trans
    (congrArg (fun j : S24x2x512.Idx => gateAt (aX m c) (aR m c) (aRb m c) (aC m c) (j 0) (j 2) (j 1)) h).symm

theorem out_array (hX : Bounded (aX m c)) (hI : InRange m c) :
    (dats m 0 c).arrAt 7 cfg0.N = fun j : S24x512x5632.Idx =>
      outAt (aX m c) (aW m c) (aWs m c) (aR m c) (aRb m c) (aC m c) (aA m c) (aB m c) (j 0) (j 1) (j 2) := by
  refine (dats m 0 c).arrAt_eq_of_covers 7 _ (by decide +kernel) fun t hf y => ?_
  have h : ((win0_7.blk t).view.emb y : S24x512x5632.Idx) = ix3 (batch t) (y 1) (y 2) := by
    blk_ext [index7]
  have hy : (y : S1x512x5632.Idx) = ix3 (0 : Fin 1) (y 1) (y 2) := by
    blk_ext
  exact ((congrArg ((dats m 0 c).after 7 t) hy).trans (out_after m c hX hI t (y 1) (y 2))).trans
    (congrArg (fun j : S24x512x5632.Idx =>
      outAt (aX m c) (aW m c) (aWs m c) (aR m c) (aRb m c) (aC m c) (aA m c) (aB m c) (j 0) (j 1) (j 2)) h).symm

end Cert.Mix.Kern

end
-- ==== Proof.KernelTail.lean ====
/- The two results that the host makes from the kernel's arrays, at an index. -/
module

public import proofs.«01_k».proof.Proof.KernelArray

@[expose] public section

noncomputable section

namespace Cert.Mix.Kern

open Idealize.ShloMosaic Idealize.ShloMosaic.TcCoe Idealize.SL.Sem Cert.KernelIdeal Cert.KernelIdeal.Gen Cert.Mix
open Idealize.ShloMosaic.Pipeline (Dat)

variable (m : (ℓ : Loc nD τ sig) → Buf (Elt Ideal) ℓ) (c : Dev nD)

abbrev tailOf (b : Ref sig .tc) : Buf (Elt Ideal) ((c : Thread nD τ).loc b) := Pipeline.afterTail₀ cfgs (dats m) 0 (V0 m) [hostOps1] c b

theorem tail_gates : (tailOf m c main_v16 : FVec Ideal S24x512x2 .f32)
    = transpose S24x512x2 [0, 2, 1] ((dats m 0 c).arrAt 8 cfg0.N : FVec Ideal S24x2x512 .f32) transposes_S24x2x512_S24x512x2_0_2_1 := by
  unfold tailOf Pipeline.afterTail₀
  have e : Pipeline.withArrays cfg0.spec c (V0 m c) (fun w => (dats m 0 c).arrAt w cfg0.N) (Proc.devRef .tc main_v15_1) = (dats m 0 c).arrAt 8 cfg0.N :=
    Pipeline.withArrays_arr cfg0.spec (by decide) c (V0 m c) (fun w => (dats m 0 c).arrAt w cfg0.N) 8
  rw [← e]
  generalize Pipeline.withArrays cfg0.spec c (V0 m c) (fun w => (dats m 0 c).arrAt w cfg0.N) = Z
  after_reads_simp

theorem tail_scale : (tailOf m c main_v17 : FVec Ideal S24x512 .f32)
    = shapeCast S24x512 ((dats m 0 c).arrAt 10 cfg0.N : FVec Ideal S24x1x512 .f32) shapeCasts_S24x1x512_S24x512 := by
  unfold tailOf Pipeline.afterTail₀
  have e : Pipeline.withArrays cfg0.spec c (V0 m c) (fun w => (dats m 0 c).arrAt w cfg0.N) (Proc.devRef .tc main_v15_3) = (dats m 0 c).arrAt 10 cfg0.N :=
    Pipeline.withArrays_arr cfg0.spec (by decide) c (V0 m c) (fun w => (dats m 0 c).arrAt w cfg0.N) 10
  rw [← e]
  generalize Pipeline.withArrays cfg0.spec c (V0 m c) (fun w => (dats m 0 c).arrAt w cfg0.N) = Z
  after_reads_simp
  rfl

theorem gates_result (hI : InRange m c) : (tailOf m c main_v16 : FVec Ideal S24x512x2 .f32)
    = fun j => gateAt (aX m c) (aR m c) (aRb m c) (aC m c) (j 0) (j 1) (j 2) := by
  rw [tail_gates, gates_array m c hI]
  funext j
  rw [eq_ix3 j]
  pointwise

theorem squeeze_at (x : FVec Ideal S24x1x512 .f32) (i : Fin 24) (s : Fin 512) :
    shapeCast S24x512 x shapeCasts_S24x1x512_S24x512 (ix2 i s) = x (ix3 i (0 : Fin 1) s) := by
  pointwise

theorem scale_result (hX : Bounded (aX m c)) : (tailOf m c main_v17 : FVec Ideal S24x512 .f32) = fun j => scaleAt (aX m c) (j 0) (j 1) := by
  funext j
  refine (congrFun (tail_scale m c) j).trans ?_
  rw [eq_ix2 j]
  exact (squeeze_at _ _ _).trans (congrFun (scale_array m c hX) (ix3 (j 0) (0 : Fin 1) (j 1)))

end Cert.Mix.Kern

end
-- ==== Proof.KernelRun.lean ====
/- The kernel's run: its four results as functions of its arguments, the arguments unchanged. -/
module

public import proofs.«01_k».proof.Proof.KernelTail

@[expose] public section

noncomputable section

namespace Cert.Mix.Kern

open Idealize.ShloMosaic Idealize.ShloMosaic.TcCoe Idealize.SL.Sem Cert.KernelIdeal Cert.KernelIdeal.Gen Cert.Mix
open Idealize.ShloMosaic.Pipeline (Dat)

variable (m : (ℓ : Loc nD τ sig) → Buf (Elt Ideal) ℓ) (ρ : Dev nD → PrngReg)

theorem results (hX : ∀ c, Bounded (aX m c)) (hI : ∀ c, InRange m c) :
    θ_run (defs (F := Ideal)) (onTc (τ := τ) (main (F := Ideal))) ⟨m, fun _ => 0, ρ⟩ (fun r => ∀ c : Dev nD,
      r.2.mem ((c.tc : Thread nD τ).loc main_v15_0) = (fun j : S24x512x5632.Idx =>
        outAt (aX m c) (aW m c) (aWs m c) (aR m c) (aRb m c) (aC m c) (aA m c) (aB m c) (j 0) (j 1) (j 2))
      ∧ r.2.mem ((c.tc : Thread nD τ).loc main_v16) = (fun j : S24x512x2.Idx => gateAt (aX m c) (aR m c) (aRb m c) (aC m c) (j 0) (j 1) (j 2))
      ∧ r.2.mem ((c.tc : Thread nD τ).loc main_v15_2) = (fun j : S24x512x2048.Idx => codeAt (aX m c) (j 0) (j 1) (j 2))
      ∧ r.2.mem ((c.tc : Thread nD τ).loc main_v17) = (fun j : S24x512.Idx => scaleAt (aX m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 7).trans (out_array m c (hX c) (hI c)),
      ((h c).2 main_v16 (Pipeline.mem_restRefs_of main_v16 (by decide) (by decide))).trans (gates_result m c (hI c)),
      ((h c).1 9).trans (codes_array m c (hX c)),
      ((h c).2 main_v17 (Pipeline.mem_restRefs_of main_v17 (by decide) (by decide))).trans (scale_result m c (hX c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩) (run_main m ρ)

end Cert.Mix.Kern

end
-- ==== Proof.RefDefs.lean ====
/- The reference's host operations, stretch by stretch, as functions of whole arrays. -/
module

public import proofs.«01_k».proof.Proof.Gen.ReferenceIdeal
public import Idealize.ShloMosaic.PureOps.Ideal.Laws
public import Idealize.ShloMosaic.Lib.Pointwise

@[expose] public section

noncomputable section

namespace Cert.Mix

open Idealize.ShloMosaic Idealize.ShloMosaic.TcCoe Idealize.SL.Sem Cert.ReferenceIdeal Cert.ReferenceIdeal.Gen

/-- The row `(i, s)` of the tokens. -/
abbrev tokenRow (X : FVec Ideal S24x512x2048 .bf16) (i : Fin 24) (s : Fin 512) (d : Fin 2048) : EReal := X (ix3 i s d)

def refStep (X : FVec Ideal S24x512x2048 .bf16) : FVec Ideal S24x512 .f32 :=
  mulf (F := Ideal) (Host.reduce FloatOps.maximumf (Host.absf (F := Ideal) (extf .f32 X bitsLt_bf16_f32)) (constant S_ .f32 0xFF800000#32) reducesTo_S24x512x2048_S24x512_d2 h_S_) (broadcastInDim S24x512 ![] bcast_S_S24x512 (constant (F := Ideal) S_ .f32 0x3B124925#32))

def refExponent (T : FVec Ideal S24x512 .f32) : FVec Ideal S24x512 .f32 :=
  select (cmpf (F := Ideal) .olt T (broadcastInDim S24x512 ![] bcast_S_S24x512 (constant (F := Ideal) S_ .f32 0x00800000#32)))
    (broadcastInDim S24x512 ![] bcast_S_S24x512 (constant (F := Ideal) S_ .f32 0x00000000#32))
    (addf (F := Ideal) (Host.floor (F := Ideal) (Host.divf (F := Ideal) (Host.log (F := Ideal) T) (Host.log (F := Ideal) (broadcastInDim S24x512 ![] bcast_S_S24x512 (constant (F := Ideal) S_ .f32 0x40000000#32)))))
      (broadcastInDim S24x512 ![] bcast_S_S24x512 (constant (F := Ideal) S_ .f32 0x3F800000#32)))

def refScale (E : FVec Ideal S24x512 .f32) : FVec Ideal S24x512 .f32 :=
  Host.powf (F := Ideal) (broadcastInDim S24x512 ![] bcast_S_S24x512 (constant S_ .f32 0x40000000#32)) E

def refClip (X : FVec Ideal S24x512x2048 .bf16) (E : FVec Ideal S24x512 .f32) : FVec Ideal S24x512x2048 .f32 :=
  minimumf (F := Ideal) (broadcastInDim S24x512x2048 ![] bcast_S_S24x512x2048 (constant (F := Ideal) S_ .f32 0x43E00000#32))
     (maximumf (F := Ideal) (broadcastInDim S24x512x2048 ![] bcast_S_S24x512x2048 (constant (F := Ideal) S_ .f32 0xC3E00000#32))
      (mulf (F := Ideal) (extf .f32 X bitsLt_bf16_f32) (broadcastInDim S24x512x2048 ![0, 1, 2] bcast_S24x512x1_S24x512x2048_0_1_2 (broadcastInDim S24x512x1 ![0, 1] bcast_S24x512_S24x512x1_0_1
        (Host.powf (F := Ideal) (broadcastInDim S24x512 ![] bcast_S_S24x512 (constant S_ .f32 0x40000000#32)) (Host.negf (F := Ideal) E))))))

def refLogits (X : FVec Ideal S24x512x2048 .bf16) (W : FVec Ideal S2048x11 .bf16) (b : FVec Ideal S11 .f32) : FVec Ideal S24x512x11 .f32 :=
  addf (F := Ideal) (Host.dotGeneral (φ₁ := .bf16) (φ₂ := .bf16) dot_S24x512x2048_S2048x11_S24x512x11_2_0_01_1_n_n none X W)
    (broadcastInDim S24x512x11 ![0, 1, 2] bcast_S1x1x11_S24x512x11_0_1_2 (broadcastInDim S1x1x11 ![2] bcast_S11_S1x1x11_2 b))

def refShifted (L : FVec Ideal S24x512x11 .f32) : FVec Ideal S24x512x11 .f32 :=
  Host.exp (F := Ideal) (subf (F := Ideal) L (broadcastInDim S24x512x11 ![0, 1, 2] bcast_S24x512x1_S24x512x11_0_1_2 (broadcastInDim S24x512x1 ![0, 1] bcast_S24x512_S24x512x1_0_1
    (maximumf (F := Ideal) (broadcastInDim S24x512 ![] bcast_S_S24x512 (constant S_ .f32 0xFF800000#32)) (Host.reduce FloatOps.maximumf L (constant S_ .f32 0xFF800000#32) reducesTo_S24x512x11_S24x512_d2 h_S_)))))

def refSoft (E : FVec Ideal S24x512x11 .f32) : FVec Ideal S24x512x11 .f32 :=
  Host.divf (F := Ideal) E (broadcastInDim S24x512x11 ![0, 1, 2] bcast_S24x512x1_S24x512x11_0_1_2 (broadcastInDim S24x512x1 ![0, 1] bcast_S24x512_S24x512x1_0_1
    (Host.reduceAdd (F := Ideal) E (constant S_ .f32 0x00000000#32) reducesTo_S24x512x11_S24x512_d2 h_S_)))

def refTake (P : FVec Ideal S24x512x11 .f32) (I : IVec S24x512x2 32) : FVec Ideal S24x512x2 .f32 :=
  let J : IVec S24x512x2x1 32 := shapeCast S24x512x2x1 (select (cmpi .slt I (broadcastInDim S24x512x2 ![] bcast_S_S24x512x2 (constantI S_ 32 0#32)))
    (addi I (broadcastInDim S24x512x2 ![] bcast_S_S24x512x2 (constantI S_ 32 11#32))) I) shapeCasts_S24x512x2_S24x512x2x1
  select (Host.reduce IntOp.andi (andi (cmpi .sge J (broadcastInDim S24x512x2x1 ![] bcast_S_S24x512x2x1 (constantI S_ 32 0#32)))
      (cmpi .sle J (broadcastInDim S24x512x2x1 ![0, 1, 2, 3] bcast_S1x1x1x1_S24x512x2x1_0_1_2_3 (broadcastInDim S1x1x1x1 ![3] bcast_S1_S1x1x1x1_3 (constantI S1 32 10#32)))))
      (constantI S_ 1 1#1) reducesTo_S24x512x2x1_S24x512x2_d3 h_S_)
    (Host.gather gather_S24x512x11_S24x512x2x1_S24x512x2_n_2_01_01_2_3_111 P J)
    (broadcastInDim S24x512x2 ![] bcast_S_S24x512x2 (constant (F := Ideal) S_ .f32 0x7FC00000#32))

def refGates (P : FVec Ideal S24x512x2 .f32) : FVec Ideal S24x512x2 .f32 :=
  Host.divf (F := Ideal) P (broadcastInDim S24x512x2 ![0, 1, 2] bcast_S24x512x1_S24x512x2_0_1_2 (broadcastInDim S24x512x1 ![0, 1] bcast_S24x512_S24x512x1_0_1
    (Host.reduceAdd (F := Ideal) P (constant S_ .f32 0x00000000#32) reducesTo_S24x512x2_S24x512_d2 h_S_)))

def refWeight (G : FVec Ideal S24x512x2 .f32) (I : IVec S24x512x2 32) : FVec Ideal S24x512x11 .f32 :=
  Host.reduceAdd (F := Ideal) (mulf (F := Ideal) (uitofp .f32 (cmpi .eq (broadcastInDim S24x512x2x11 ![0, 1, 2, 3] bcast_S24x512x2x1_S24x512x2x11_0_1_2_3 (broadcastInDim S24x512x2x1 ![0, 1, 2] bcast_S24x512x2_S24x512x2x1_0_1_2 I))
      (broadcastInDim S24x512x2x11 ![0, 1, 2, 3] bcast_S1x1x1x11_S24x512x2x11_0_1_2_3 (iotaInDim S1x1x1x11 32 3))))
    (broadcastInDim S24x512x2x11 ![0, 1, 2, 3] bcast_S24x512x2x1_S24x512x2x11_0_1_2_3 (broadcastInDim S24x512x2x1 ![0, 1, 2] bcast_S24x512x2_S24x512x2x1_0_1_2 G)))
    (constant S_ .f32 0x00000000#32) reducesTo_S24x512x2x11_S24x512x11_d2 h_S_

def refHidden (X : FVec Ideal S24x512x2048 .bf16) (A : FVec Ideal S11x2048x40 .bf16) (Q : FVec Ideal S24x512x11 .f32) : FVec Ideal S24x512x11x40 .bf16 :=
  truncf .bf16 (mulf (F := Ideal) (Host.dotGeneral (φ₁ := .bf16) (φ₂ := .bf16) dot_S24x512x2048_S11x2048x40_S24x512x11x40_2_1_01_02_n_n none X A)
    (broadcastInDim S24x512x11x40 ![0, 1, 2, 3] bcast_S24x512x11x1_S24x512x11x40_0_1_2_3 (broadcastInDim S24x512x11x1 ![0, 1, 2] bcast_S24x512x11_S24x512x11x1_0_1_2
      (mulf (F := Ideal) Q (broadcastInDim S24x512x11 ![] bcast_S_S24x512x11 (constant S_ .f32 0x40000000#32)))))) bitsLt_bf16_f32

def refLora (H : FVec Ideal S24x512x11x40 .bf16) (B : FVec Ideal S11x40x5632 .bf16) : FVec Ideal S24x512x5632 .f32 :=
  Host.dotGeneral (φ₁ := .bf16) (φ₂ := .bf16) dot_S24x512x11x40_S11x40x5632_S24x512x5632_23_01_01_2_n_n none H B

end Cert.Mix

end
-- ==== Proof.RefHost.lean ====
/- What the reference's host operations leave in each buffer that the rest of the proof names: the whole-array functions of
   RefDefs.lean over the arguments and over earlier buffers. -/
module

public import proofs.«01_k».proof.Proof.Gen.ReferenceIdeal.Value
public import proofs.«01_k».proof.Proof.RefDefs
public import Idealize.ShloMosaic.Lib.StableHlo.RunRead
public import Idealize.ShloMosaic.Lib.StableHlo.ReadAt

@[expose] public section

noncomputable section

namespace Cert.Mix

open Idealize.ShloMosaic Idealize.ShloMosaic.TcCoe Idealize.SL.Sem Cert.ReferenceIdeal Cert.ReferenceIdeal.Gen

variable (m : (ℓ : Loc nD τ sig) → Buf (Elt Ideal) ℓ)

/-- The reference's arguments on device `c`. -/
abbrev rX (c : Dev nD) : FVec Ideal S24x512x2048 .bf16 := m ((c : Thread nD τ).loc main_arg0)
abbrev rW (c : Dev nD) : FVec Ideal S2048x5632 .fp8e4m3 := m ((c : Thread nD τ).loc main_arg1)
abbrev rWs (c : Dev nD) : FVec Ideal S5632 .f32 := m ((c : Thread nD τ).loc main_arg2)
abbrev rRw (c : Dev nD) : FVec Ideal S2048x11 .bf16 := m ((c : Thread nD τ).loc main_arg3)
abbrev rRb (c : Dev nD) : FVec Ideal S11 .f32 := m ((c : Thread nD τ).loc main_arg4)
abbrev rIdx (c : Dev nD) : IVec S24x512x2 32 := m ((c : Thread nD τ).loc main_arg5)
abbrev rA (c : Dev nD) : FVec Ideal S11x2048x40 .bf16 := m ((c : Thread nD τ).loc main_arg6)
abbrev rB (c : Dev nD) : FVec Ideal S11x40x5632 .bf16 := m ((c : Thread nD τ).loc main_arg7)

theorem host_step (c : Dev nD) : (V m c main_v4 : FVec Ideal S24x512 .f32) = refStep (rX m c) := by
  unfold V refStep
  after_reads_simp

theorem host_exponent (c : Dev nD) : (V m c main_v14 : FVec Ideal S24x512 .f32) = refExponent (V m c main_v4) := by
  unfold V refExponent
  after_reads_simp
  simp -implicitDefEqProofs only [StableHlo.TRef.toBuf, StableHlo.TRef.ofBuf, cast_cast, cast_eq, id_eq]

theorem host_scale (c : Dev nD) : (V m c main_v16 : FVec Ideal S24x512 .f32) = refScale (V m c main_v14) := by
  unfold V refScale
  after_reads_simp

theorem host_clip (c : Dev nD) : (V m c main_v23 : FVec Ideal S24x512x2048 .f32) = refClip (rX m c) (V m c main_v14) := by
  unfold V refClip
  after_reads_simp
  simp -implicitDefEqProofs only [StableHlo.TRef.toBuf, StableHlo.TRef.ofBuf, cast_cast, cast_eq, id_eq]

theorem host_logits (c : Dev nD) : (V m c main_v27 : FVec Ideal S24x512x11 .f32) = refLogits (rX m c) (rRw m c) (rRb m c) := by
  unfold V refLogits
  after_reads_simp

theorem host_shifted (c : Dev nD) : (V m c main_v34 : FVec Ideal S24x512x11 .f32) = refShifted (V m c main_v27) := by
  unfold V refShifted
  after_reads_simp

theorem host_soft (c : Dev nD) : (V m c main_v38 : FVec Ideal S24x512x11 .f32) = refSoft (V m c main_v34) := by
  unfold V refSoft
  after_reads_simp

theorem host_take (c : Dev nD) : (V m c main_v39 : FVec Ideal S24x512x2 .f32) = refTake (V m c main_v38) (rIdx m c) := by
  unfold V refTake
  after_reads_simp
  simp -implicitDefEqProofs only [StableHlo.TRef.toBuf, StableHlo.TRef.ofBuf, cast_cast, cast_eq, id_eq]
  rfl

theorem host_gates (c : Dev nD) : (V m c main_v43 : FVec Ideal S24x512x2 .f32) = refGates (V m c main_v39) := by
  unfold V refGates
  after_reads_simp

theorem host_weight (c : Dev nD) : (V m c main_v48 : FVec Ideal S24x512x11 .f32) = refWeight (V m c main_v43) (rIdx m c) := by
  unfold V refWeight
  after_reads_simp
  simp -implicitDefEqProofs only [StableHlo.TRef.toBuf, StableHlo.TRef.ofBuf, cast_cast, cast_eq, id_eq]

theorem host_hidden (c : Dev nD) : (V m c main_v55 : FVec Ideal S24x512x11x40 .bf16) = refHidden (rX m c) (rA m c) (V m c main_v48) := by
  unfold V refHidden
  after_reads_simp

theorem host_lora (c : Dev nD) : (V m c main_v56 : FVec Ideal S24x512x5632 .f32) = refLora (V m c main_v55) (rB m c) := by
  unfold V refLora
  after_reads_simp

end Cert.Mix

end
-- ==== Proof.RefRows.lean ====
/- The reference's host operations as functions of whole arrays, each read at an index: the entries are the row functions of
   Spec.lean. -/
module

public import proofs.«01_k».proof.Proof.RefDefs
public import proofs.«01_k».proof.Proof.Spec
public import Idealize.ShloMosaic.Lib.Pointwise

@[expose] public section

noncomputable section

namespace Cert.Mix

open Idealize.ShloMosaic Idealize.ShloMosaic.TcCoe Idealize.SL.Sem Cert.ReferenceIdeal Cert.ReferenceIdeal.Gen

theorem ofBits_bot : Ideal.ofBits .f32 0xFF800000#32 = ⊥ := by simp [Ideal.ofBits, Ideal.ieee]

/-! ## Scale and codes -/

theorem refStep_at (X : FVec Ideal S24x512x2048 .bf16) (i : Fin 24) (s : Fin 512) :
    refStep X (ix2 i s) = rowStep (tokenRow X i s) := by
  unfold refStep
  rw [mulf_apply, Host.reduce_eq_fold_single _ _ _ _ (by decide)]
  show (Finset.univ : Finset (Fin 2048)).fold max (Ideal.ofBits .f32 0xFF800000#32) _ * _ = _
  rw [ofBits_bot]
  unfold rowStep rowMax
  refine congrArg₂ (· * ·) (congrArg (fun f => (Finset.univ : Finset (Fin 2048)).fold max ⊥ f) ?_) rfl
  funext d
  have h : (Shape.Reduces.lift (s := S24x512x2048) (t := S24x512) (a := 2) (by decide) (ix2 i s) d) = ix3 i s d := by
    funext a; match a with | ⟨0, _⟩ => rfl | ⟨1, _⟩ => rfl | ⟨2, _⟩ => rfl
  show max (X _) (-(X _)) = max (X _) (-(X _))
  rw [h]
  rfl

theorem refExponent_at (T : FVec Ideal S24x512 .f32) (j : S24x512.Idx) : refExponent T j = exponentOf (T j) := rfl

theorem refScale_at (T : FVec Ideal S24x512 .f32) (j : S24x512.Idx) : refScale (refExponent T) j = scaleOf (T j) := rfl

theorem refClip_read (X : FVec Ideal S24x512x2048 .bf16) (E : FVec Ideal S24x512 .f32) (i : Fin 24) (s : Fin 512) (d : Fin 2048) :
    refClip X E (ix3 i s d) = min (Ideal.ofBits .f32 0x43E00000#32) (max (Ideal.ofBits .f32 0xC3E00000#32)
      (X (ix3 i s d) * Ideal.pow (Ideal.ofBits .f32 0x40000000#32) (-E (ix2 i s)))) := by
  pointwise [refClip]

theorem inverseOf_eq (t : EReal) : inverseOf t = Ideal.pow (Ideal.ofBits .f32 0x40000000#32) (-(exponentOf t)) := rfl

/-- The reference's unrounded codes are the row's codes. -/
theorem refClip_at (X : FVec Ideal S24x512x2048 .bf16) (i : Fin 24) (s : Fin 512) (d : Fin 2048) :
    refClip X (refExponent (refStep X)) (ix3 i s d) = rowCode (tokenRow X i s) d := by
  rw [refClip_read, refExponent_at, refStep_at]
  unfold rowCode
  rw [inverseOf_eq]

/-! ## Gates -/

theorem refLogits_at (X : FVec Ideal S24x512x2048 .bf16) (W : FVec Ideal S2048x11 .bf16) (b : FVec Ideal S11 .f32)
    (i : Fin 24) (s : Fin 512) (e : Fin 11) :
    refLogits X W b (ix3 i s e) = logit (tokenRow X i s) (fun d e => W (ix2 d e)) (fun e => b (ix1 e)) e := by
  pointwise [refLogits]
  rfl

theorem refShifted_at (L : FVec Ideal S24x512x11 .f32) (i : Fin 24) (s : Fin 512) (e : Fin 11) :
    refShifted L (ix3 i s e) = Ideal.exp (L (ix3 i s e) - logitMax fun e => L (ix3 i s e)) := by
  pointwise [refShifted]
  unfold logitMax
  rw [ofBits_bot, max_eq_right bot_le]

theorem refSoft_at (L : FVec Ideal S24x512x11 .f32) (i : Fin 24) (s : Fin 512) (e : Fin 11) :
    refSoft (refShifted L) (ix3 i s e) = soft (fun e => L (ix3 i s e)) e := by
  pointwise [refSoft]
  simp only [refShifted_at, zero_add]
  rfl

theorem refTake_at (P : FVec Ideal S24x512x11 .f32) (I : IVec S24x512x2 32) (i : Fin 24) (s : Fin 512) (k : Fin 2)
    (h0 : 0 ≤ (I (ix3 i s k)).toInt) (h1 : (I (ix3 i s k)).toInt < 11) :
    refTake P I (ix3 i s k) = P (ix3 i s (expert (I (ix3 i s k)))) := by
  have hw : (I (ix3 i s k)).toNat < 11 ∧ (I (ix3 i s k)).toInt = (I (ix3 i s k)).toNat := by
    generalize I (ix3 i s k) = w at h0 h1
    have hc := BitVec.toInt_eq_toNat_cond w
    have := w.isLt
    split at hc <;> omega
  obtain ⟨hn, hi⟩ := hw
  have hslt : IntOp.cmpi CmpIPredicate.slt (I (ix3 i s k)) 0#32 = 0#1 := by
    show BitVec.ofBool ((I (ix3 i s k)).slt 0#32) = 0#1
    rw [show (I (ix3 i s k)).slt 0#32 = false by
      rw [BitVec.slt_eq_decide, decide_eq_false_iff_not]; simpa using h0]
    rfl
  have hsge : IntOp.cmpi CmpIPredicate.sge (I (ix3 i s k)) 0#32 = 1#1 := by
    show BitVec.ofBool ((0#32).sle (I (ix3 i s k))) = 1#1
    rw [show (0#32).sle (I (ix3 i s k)) = true by
      rw [BitVec.sle_eq_decide, decide_eq_true_iff]; simpa using h0]
    rfl
  have hsle : IntOp.cmpi CmpIPredicate.sle (I (ix3 i s k)) 10#32 = 1#1 := by
    show BitVec.ofBool ((I (ix3 i s k)).sle 10#32) = 1#1
    rw [show (I (ix3 i s k)).sle 10#32 = true by
      rw [BitVec.sle_eq_decide, decide_eq_true_iff, show (10#32).toInt = 10 from rfl]; omega]
    rfl
  unfold refTake
  set J : IVec S24x512x2x1 32 := shapeCast S24x512x2x1 (select (cmpi .slt I (broadcastInDim S24x512x2 ![] bcast_S_S24x512x2 (constantI S_ 32 0#32)))
    (addi I (broadcastInDim S24x512x2 ![] bcast_S_S24x512x2 (constantI S_ 32 11#32))) I) shapeCasts_S24x512x2_S24x512x2x1 with hJdef
  have hJ : J (ix4 i s k 0) = I (ix3 i s k) := by
    rw [hJdef]
    pointwise
    rw [hslt]
    rfl
  have hg : gather_S24x512x11_S24x512x2x1_S24x512x2_n_2_01_01_2_3_111.operandIdx (ix3 i s k) J = ix3 i s (expert (I (ix3 i s k))) := by
    funext a
    apply Fin.ext
    match a with
    | ⟨0, _⟩ =>
      show GatherDims.start _ _ J 0 + GatherDims.batchCoord _ _ 0 + GatherDims.offCoord _ _ 0 = i.val
      rw [GatherDims.start_batching _ _ _ _ (by decide), GatherDims.offCoord_eq_zero _ _ _ (by decide), Nat.zero_add, Nat.add_zero]
      unfold GatherDims.batchCoord
      rw [dif_pos (by decide)]
      rfl
    | ⟨1, _⟩ =>
      show GatherDims.start _ _ J 1 + GatherDims.batchCoord _ _ 1 + GatherDims.offCoord _ _ 1 = s.val
      rw [GatherDims.start_batching _ _ _ _ (by decide), GatherDims.offCoord_eq_zero _ _ _ (by decide), Nat.zero_add, Nat.add_zero]
      unfold GatherDims.batchCoord
      rw [dif_pos (by decide)]
      rfl
    | ⟨2, _⟩ =>
      show GatherDims.start _ _ J 2 + GatherDims.batchCoord _ _ 2 + GatherDims.offCoord _ _ 2 = (I (ix3 i s k)).toNat % 11
      rw [GatherDims.batchCoord_eq_zero _ _ _ (by decide), GatherDims.offCoord_eq_zero _ _ _ (by decide), Nat.add_zero]
      unfold GatherDims.start
      rw [dif_pos (by decide)]
      have hi4 : (gather_S24x512x11_S24x512x2x1_S24x512x2_n_2_01_01_2_3_111.siIdx (ix3 i s k) ⟨0, by decide⟩) = ix4 i s k 0 := by
        funext b
        match b with
        | ⟨0, _⟩ => rfl
        | ⟨1, _⟩ => rfl
        | ⟨2, _⟩ => rfl
        | ⟨3, _⟩ => rfl
      show min (J (gather_S24x512x11_S24x512x2x1_S24x512x2_n_2_01_01_2_3_111.siIdx (ix3 i s k) ⟨0, by decide⟩)).toInt.toNat 10 = _
      rw [hi4, hJ]
      omega
  have hc : Host.reduce IntOp.andi (andi (cmpi .sge J (broadcastInDim S24x512x2x1 ![] bcast_S_S24x512x2x1 (constantI S_ 32 0#32)))
      (cmpi .sle J (broadcastInDim S24x512x2x1 ![0, 1, 2, 3] bcast_S1x1x1x1_S24x512x2x1_0_1_2_3 (broadcastInDim S1x1x1x1 ![3] bcast_S1_S1x1x1x1_3 (constantI S1 32 10#32)))))
      (constantI S_ 1 1#1) reducesTo_S24x512x2x1_S24x512x2_d3 h_S_ (ix3 i s k) = 1#1 := by
    clear_value J
    pointwise
    rw [show (Finset.univ : Finset (Fin 1)) = {0} from rfl, Finset.fold_singleton, hJ, hsge, hsle]
    rfl
  show Scalar.select (_ : BitVec 1) _ _ = _
  rw [hc]
  show P (gather_S24x512x11_S24x512x2x1_S24x512x2_n_2_01_01_2_3_111.operandIdx (ix3 i s k) J) = _
  rw [hg]

theorem refGates_at (P : FVec Ideal S24x512x2 .f32) (i : Fin 24) (s : Fin 512) (k : Fin 2) :
    refGates P (ix3 i s k) = Ideal.div (P (ix3 i s k)) (∑ k', P (ix3 i s k')) := by
  pointwise [refGates]

/-! ## The low-rank term -/

theorem refWeight_at (G : FVec Ideal S24x512x2 .f32) (I : IVec S24x512x2 32) (i : Fin 24) (s : Fin 512) (e : Fin 11)
    (h0 : ∀ k, 0 ≤ (I (ix3 i s k)).toInt) (h1 : ∀ k, (I (ix3 i s k)).toInt < 11) :
    refWeight G I (ix3 i s e) = weight (fun k => G (ix3 i s k)) (fun k => expert (I (ix3 i s k))) e := by
  pointwise [refWeight]
  unfold weight
  refine Finset.sum_congr rfl fun k _ => ?_
  congr 1
  have h0 := h0 k
  have h1 := h1 k
  show _ = if expert (I (ix3 i s k)) = e then 1 else 0
  generalize I (ix3 i s k) = w at h0 h1 ⊢
  have hw : w.toNat < 11 := by
    have hc := BitVec.toInt_eq_toNat_cond w
    have := w.isLt
    split at hc <;> omega
  show (((BitVec.ofBool (w == BitVec.ofNat 32 e.val)).toNat : ℝ) : EReal) = _
  have he : (expert w = e) ↔ w = BitVec.ofNat 32 e.val := by
    rw [Fin.ext_iff, ← BitVec.toNat_inj, BitVec.toNat_ofNat]
    have := e.isLt
    show w.toNat % 11 = e.val ↔ _
    omega
  by_cases h : w = BitVec.ofNat 32 e.val
  · rw [if_pos (he.2 h), beq_iff_eq.2 h]; simp
  · rw [if_neg (fun hh => h (he.1 hh)), beq_eq_false_iff_ne.2 h]; simp

theorem refHidden_at (X : FVec Ideal S24x512x2048 .bf16) (A : FVec Ideal S11x2048x40 .bf16) (Q : FVec Ideal S24x512x11 .f32)
    (i : Fin 24) (s : Fin 512) (e : Fin 11) (q : Fin 40) :
    refHidden X A Q (ix4 i s e q) = hidden (tokenRow X i s) (fun e d q => A (ix3 e d q)) (fun e => Q (ix3 i s e)) e q := by
  pointwise [refHidden]
  rfl

theorem refLora_at (H : FVec Ideal S24x512x11x40 .bf16) (B : FVec Ideal S11x40x5632 .bf16) (i : Fin 24) (s : Fin 512) (o : Fin 5632) :
    refLora H B (ix3 i s o) = ∑ e : Fin 11, ∑ q : Fin 40, H (ix4 i s e q) * B (ix3 e q o) := by
  pointwise [refLora]

end Cert.Mix

end
-- ==== Proof.RefBuffers.lean ====
/- The reference's host buffers at an index. -/
module

public import proofs.«01_k».proof.Proof.RefHost
public import proofs.«01_k».proof.Proof.RefRows
public import proofs.«01_k».proof.Proof.Arrays
public import Idealize.ShloMosaic.Lib.Pipeline.ValueKit.Geometry

@[expose] public section

noncomputable section

namespace Cert.Mix

open Idealize.ShloMosaic Idealize.ShloMosaic.TcCoe Idealize.SL.Sem Cert.ReferenceIdeal Cert.ReferenceIdeal.Gen
open Idealize.ShloMosaic.Pipeline (Dat)

variable (m : (ℓ : Loc nD τ sig) → Buf (Elt Ideal) ℓ) (c : Dev nD)

/-! ## The arguments read at indices -/

abbrev bX : Fin 24 → Fin 512 → Fin 2048 → EReal := fun i s d => rX m c (ix3 i s d)
abbrev bW : Fin 2048 → Fin 5632 → EReal := fun d o => rW m c (ix2 d o)
abbrev bWs : Fin 5632 → EReal := fun o => rWs m c (ix1 o)
abbrev bR : Fin 2048 → Fin 11 → EReal := fun d e => rRw m c (ix2 d e)
abbrev bRb : Fin 11 → EReal := fun e => rRb m c (ix1 e)
abbrev bC : Fin 24 → Fin 512 → Fin 2 → Fin 11 := fun i s k => expert (rIdx m c (ix3 i s k))
abbrev bA : Fin 11 → Fin 2048 → Fin 40 → EReal := fun e d q => rA m c (ix3 e d q)
abbrev bB : Fin 11 → Fin 40 → Fin 5632 → EReal := fun e q o => rB m c (ix3 e q o)

/-- Every index names one of the eleven experts. -/
def RefInRange : Prop := ∀ i s k, 0 ≤ (rIdx m c (ix3 i s k)).toInt ∧ (rIdx m c (ix3 i s k)).toInt < 11

/-! ## The host buffers at an index -/

theorem scale_buffer (i : Fin 24) (s : Fin 512) : (V m c main_v16 : FVec Ideal S24x512 .f32) (ix2 i s) = scaleAt (bX m c) i s := by
  rw [host_scale, host_exponent, host_step, refScale_at, refStep_at]
  rfl

theorem clip_buffer (i : Fin 24) (s : Fin 512) (d : Fin 2048) :
    (V m c main_v23 : FVec Ideal S24x512x2048 .f32) (ix3 i s d) = codeAt (bX m c) i s d := by
  rw [host_clip, host_exponent, host_step, refClip_at]
  rfl

theorem soft_buffer (i : Fin 24) (s : Fin 512) (e : Fin 11) :
    (V m c main_v38 : FVec Ideal S24x512x11 .f32) (ix3 i s e) = soft (logit (bX m c i s) (bR m c) (bRb m c)) e := by
  rw [host_soft, host_shifted, refSoft_at]
  refine congrArg (fun f => soft f e) (funext fun e' => ?_)
  rw [host_logits, refLogits_at]

theorem gates_buffer (hI : RefInRange m c) (i : Fin 24) (s : Fin 512) (k : Fin 2) :
    (V m c main_v43 : FVec Ideal S24x512x2 .f32) (ix3 i s k) = gateAt (bX m c) (bR m c) (bRb m c) (bC m c) i s k := by
  have h : ∀ k', (V m c main_v39 : FVec Ideal S24x512x2 .f32) (ix3 i s k') = soft (logit (bX m c i s) (bR m c) (bRb m c)) (bC m c i s k') := fun k' => by
    rw [host_take, refTake_at _ _ _ _ _ (hI i s k').1 (hI i s k').2, soft_buffer]
  rw [host_gates, refGates_at]
  simp only [h]
  rfl

theorem hidden_buffer (hI : RefInRange m c) (i : Fin 24) (s : Fin 512) (e : Fin 11) (q : Fin 40) :
    (V m c main_v55 : FVec Ideal S24x512x11x40 .bf16) (ix4 i s e q)
      = hidden (bX m c i s) (bA m c) (weight (fun k => gateAt (bX m c) (bR m c) (bRb m c) (bC m c) i s k) (bC m c i s)) e q := by
  rw [host_hidden, refHidden_at]
  refine congrArg (fun f => hidden (bX m c i s) (bA m c) f e q) (funext fun e' => ?_)
  rw [host_weight, refWeight_at _ _ _ _ _ (fun k => (hI i s k).1) (fun k => (hI i s k).2)]
  refine congrArg (fun f => weight f (bC m c i s) e') (funext fun k => ?_)
  exact gates_buffer m c hI i s k

/-- The low-rank term of token `(i, s)` at column `o`. -/
def loraAt (i : Fin 24) (s : Fin 512) (o : Fin 5632) : EReal :=
  ∑ e : Fin 11, ∑ q : Fin 40, hidden (bX m c i s) (bA m c) (weight (fun k => gateAt (bX m c) (bR m c) (bRb m c) (bC m c) i s k) (bC m c i s)) e q * bB m c e q o

theorem lora_of (H : FVec Ideal S24x512x11x40 .bf16) (i : Fin 24) (s : Fin 512) (o : Fin 5632)
    (h : ∀ e q, H (ix4 i s e q) = hidden (bX m c i s) (bA m c) (weight (fun k => gateAt (bX m c) (bR m c) (bRb m c) (bC m c) i s k) (bC m c i s)) e q) :
    refLora H (rB m c) (ix3 i s o) = loraAt m c i s o := by
  rw [refLora_at]
  simp only [h]
  rfl

theorem lora_buffer (hI : RefInRange m c) (i : Fin 24) (s : Fin 512) (o : Fin 5632) :
    (V m c main_v56 : FVec Ideal S24x512x5632 .f32) (ix3 i s o) = loraAt m c i s o := by
  rw [host_lora]
  exact lora_of m c _ i s o fun e q => hidden_buffer m c hI i s e q

end Cert.Mix

end
-- ==== Proof.RefBlocks.lean ====
/- The blocks that the reference's pallas_call reads, at an index. -/
module

public import proofs.«01_k».proof.Proof.RefBuffers
public import Idealize.ShloMosaic.Lib.Pipeline.ValueKit.Geometry

@[expose] public section

noncomputable section

namespace Cert.Mix

open Idealize.ShloMosaic Idealize.ShloMosaic.TcCoe Idealize.SL.Sem Cert.ReferenceIdeal Cert.ReferenceIdeal.Gen
open Idealize.ShloMosaic.Pipeline (Dat)

variable (m : (ℓ : Loc nD τ sig) → Buf (Elt Ideal) ℓ) (c : Dev nD)

/-! ## The pallas_call's blocks: the whole arrays -/

theorem start0 : ∀ t : Fin cfg0.N, win0_0.index t = ![0, 0, 0] := (by decide +kernel : ∀ t : Fin grid0.N, _)
theorem start1 : ∀ t : Fin cfg0.N, win0_1.index t = ![0, 0] := (by decide +kernel : ∀ t : Fin grid0.N, _)
theorem start2 : ∀ t : Fin cfg0.N, win0_2.index t = ![0, 0] := (by decide +kernel : ∀ t : Fin grid0.N, _)
theorem start3 : ∀ t : Fin cfg0.N, win0_3.index t = ![0] := (by decide +kernel : ∀ t : Fin grid0.N, _)
theorem start4 : ∀ t : Fin cfg0.N, win0_4.index t = ![0, 0, 0] := (by decide +kernel : ∀ t : Fin grid0.N, _)
theorem start5 : ∀ t : Fin cfg0.N, win0_5.index t = ![0, 0, 0] := (by decide +kernel : ∀ t : Fin grid0.N, _)
theorem start6 : ∀ t : Fin cfg0.N, win0_6.index t = ![0, 0, 0] := (by decide +kernel : ∀ t : Fin grid0.N, _)

theorem read0 (t : Fin cfg0.N) (y : S24x512x2048.Idx) : iblk m c 0 t y = (V m c main_v23 : FVec Ideal S24x512x2048 .f32) ((win0_0.blk t).view.emb y) := by
  unfold iblk
  generalize V m c = Z
  rfl

theorem emb0 (t : Fin cfg0.N) (i : Fin 24) (s : Fin 512) (d : Fin 2048) : ((win0_0.blk t).view.emb (ix3 i s d) : S24x512x2048.Idx) = ix3 i s d := by
  blk_ext [start0]

theorem rblock0 (t : Fin cfg0.N) (i : Fin 24) (s : Fin 512) (d : Fin 2048) : iblk m c 0 t (ix3 i s d) = codeAt (bX m c) i s d := by
  refine (read0 m c t (ix3 i s d)).trans ?_
  exact (congrArg (V m c main_v23 : FVec Ideal S24x512x2048 .f32) (emb0 t i s d)).trans (clip_buffer m c i s d)

theorem read1_of (Z : FVec Ideal S24x512 .f32) (t : Fin cfg0.N) (y : S24x512.Idx) :
    (win0_1.blk t).view.read (Elt Ideal) Z y = Z ((win0_1.blk t).view.emb y) := rfl

theorem read1 (t : Fin cfg0.N) (y : S24x512.Idx) : iblk m c 1 t y = (V m c main_v16 : FVec Ideal S24x512 .f32) ((win0_1.blk t).view.emb y) := by
  exact read1_of (V m c main_v16) t y

theorem emb1 (t : Fin cfg0.N) (i : Fin 24) (s : Fin 512) : ((win0_1.blk t).view.emb (ix2 i s) : S24x512.Idx) = ix2 i s := by
  blk_ext [start1]

theorem rblock1 (t : Fin cfg0.N) (i : Fin 24) (s : Fin 512) : iblk m c 1 t (ix2 i s) = scaleAt (bX m c) i s := by
  refine (read1 m c t (ix2 i s)).trans ?_
  exact (congrArg (V m c main_v16 : FVec Ideal S24x512 .f32) (emb1 t i s)).trans (scale_buffer m c i s)

theorem read2 (t : Fin cfg0.N) (y : S2048x5632.Idx) : iblk m c 2 t y = (V m c main_arg1 : FVec Ideal S2048x5632 .fp8e4m3) ((win0_2.blk t).view.emb y) := by
  unfold iblk
  generalize V m c = Z
  rfl

theorem emb2 (t : Fin cfg0.N) (d : Fin 2048) (o : Fin 5632) : ((win0_2.blk t).view.emb (ix2 d o) : S2048x5632.Idx) = ix2 d o := by
  blk_ext [start2]

theorem rblock2 (t : Fin cfg0.N) (d : Fin 2048) (o : Fin 5632) : iblk m c 2 t (ix2 d o) = bW m c d o := by
  refine (read2 m c t (ix2 d o)).trans ?_
  exact (congrArg (V m c main_arg1 : FVec Ideal S2048x5632 .fp8e4m3) (emb2 t d o)).trans (congrFun (V_main_arg1 m c) (ix2 d o))

theorem read3 (t : Fin cfg0.N) (y : S5632.Idx) : iblk m c 3 t y = (V m c main_arg2 : FVec Ideal S5632 .f32) ((win0_3.blk t).view.emb y) := by
  unfold iblk
  generalize V m c = Z
  rfl

theorem emb3 (t : Fin cfg0.N) (o : Fin 5632) : ((win0_3.blk t).view.emb (ix1 o) : S5632.Idx) = ix1 o := by
  blk_ext [start3]

theorem rblock3 (t : Fin cfg0.N) (o : Fin 5632) : iblk m c 3 t (ix1 o) = bWs m c o := by
  refine (read3 m c t (ix1 o)).trans ?_
  exact (congrArg (V m c main_arg2 : FVec Ideal S5632 .f32) (emb3 t o)).trans (congrFun (V_main_arg2 m c) (ix1 o))

theorem read4 (t : Fin cfg0.N) (y : S24x512x5632.Idx) : iblk m c 4 t y = (V m c main_v56 : FVec Ideal S24x512x5632 .f32) ((win0_4.blk t).view.emb y) := by
  unfold iblk
  generalize V m c = Z
  rfl

theorem emb4 (t : Fin cfg0.N) (i : Fin 24) (s : Fin 512) (o : Fin 5632) : ((win0_4.blk t).view.emb (ix3 i s o) : S24x512x5632.Idx) = ix3 i s o := by
  blk_ext [start4]

theorem rblock4 (hI : RefInRange m c) (t : Fin cfg0.N) (i : Fin 24) (s : Fin 512) (o : Fin 5632) : iblk m c 4 t (ix3 i s o) = loraAt m c i s o := by
  refine (read4 m c t (ix3 i s o)).trans ?_
  exact (congrArg (V m c main_v56 : FVec Ideal S24x512x5632 .f32) (emb4 t i s o)).trans (lora_buffer m c hI i s o)

end Cert.Mix

end
-- ==== Proof.RefBody.lean ====
/- The body of the reference's pallas_call, at an index. -/
module

public import proofs.«01_k».proof.Proof.RefHost
public import Idealize.ShloMosaic.Lib.Pipeline.ValueKit.Geometry
public import Idealize.ShloMosaic.Lib.Pipeline.ValueKit.Tiles

@[expose] public section

noncomputable section

namespace Cert.Mix

open Idealize.ShloMosaic Idealize.ShloMosaic.TcCoe Idealize.SL.Sem Cert.ReferenceIdeal Cert.ReferenceIdeal.Gen
open Idealize.ShloMosaic.Pipeline (Dat)

variable (m : (ℓ : Loc nD τ sig) → Buf (Elt Ideal) ℓ) (c : Dev nD)

/-! ## The pallas_call's body -/

theorem rpay1_at (v0 : Vec Ideal S24x512x2048 .f32) (j : S24x512x2048.Idx) : k0_pay1 v0 j = v0 j := by
  unfold k0_pay1
  rw [shapeCast_id]
  rfl

theorem rpay2_at (v0 : Vec Ideal S24x512x2048 .f32) (v4 : Vec Ideal S2048x5632 .fp8e4m3) (v6 : Vec Ideal S24x512 .f32) (v11 : Vec Ideal S5632 .f32)
    (v15 : Vec Ideal S24x512x5632 .f32) (i : Fin 24) (s : Fin 512) (o : Fin 5632) :
    k0_pay2 v0 v4 v6 v11 v15 (ix3 i s o) = (∑ d : Fin 2048, v0 (ix3 i s d) * v4 (ix2 d o)) * v6 (ix2 i s) * v11 (ix1 o) + v15 (ix3 i s o) := by
  unfold k0_pay2
  pointwise
  simp only [rpay1_at]

theorem full3 {n0 n1 n2 : ℕ} (x y : Shape.Idx ⟨3, ![n0, n1, n2]⟩) (h : ∀ a, (y a).val = ((![0, 0, 0] : Fin 3 → ℕ) a) + (x a).val) : x = y := by
  funext a
  refine Fin.ext ?_
  have ha := h a
  match a with
  | ⟨0, _⟩ => exact ((Nat.zero_add _).symm.trans ha.symm)
  | ⟨1, _⟩ => exact ((Nat.zero_add _).symm.trans ha.symm)
  | ⟨2, _⟩ => exact ((Nat.zero_add _).symm.trans ha.symm)

section Body

variable (x0 : Vec Ideal S24x512x2048 .f32) (x1 : Vec Ideal S24x512 .f32) (x2 : Vec Ideal S2048x5632 .fp8e4m3) (x3 : Vec Ideal S5632 .f32) (x4 : Vec Ideal S24x512x5632 .f32)

theorem rld0 : View.ld x0 r0_0 = x0 := View.ld_unit_lit' inb_S24x512x2048_S24x512x2048_0_0_0 x0 (by decide)
theorem rld1 : View.ld x1 r0_2 = x1 := View.ld_unit_lit' inb_S24x512_S24x512_0_0 x1 (by decide)
theorem rld2 : View.ld x2 r0_1 = x2 := View.ld_unit_lit' inb_S2048x5632_S2048x5632_0_0 x2 (by decide)
theorem rld3 : View.ld x3 r0_3 = x3 := View.ld_unit_lit' inb_S5632_S5632_0 x3 (by decide)
theorem rld4 : View.ld x4 r0_4 = x4 := View.ld_unit_lit' inb_S24x512x5632_S24x512x5632_0_0_0 x4 (by decide)

theorem rout6_at (j : S24x512x2048.Idx) : out0_6 x0 x1 x2 x3 x4 j = x0 j := by
  unfold out0_6
  refine View.canon_eq_of_allAt _ _ _ (cover0_6 _ _) (View.allAt_cons_unit _ _ _ _ _ (fun x hx => ?_) (View.allAt_nil _ _))
  rw [full3 x j hx, rpay1_at, rld0]

theorem rout5_at (i : Fin 24) (s : Fin 512) (o : Fin 5632) : out0_5 x0 x1 x2 x3 x4 (ix3 i s o)
    = (∑ d : Fin 2048, x0 (ix3 i s d) * x2 (ix2 d o)) * x1 (ix2 i s) * x3 (ix1 o) + x4 (ix3 i s o) := by
  unfold out0_5
  refine View.canon_eq_of_allAt _ _ _ (cover0_5 _ _) (View.allAt_cons_unit _ _ _ _ _ (fun x hx => ?_) (View.allAt_nil _ _))
  rw [full3 x (ix3 i s o) hx, rpay2_at, rld0, rld1, rld2, rld3, rld4]

theorem rout5_of (i : Fin 24) (s : Fin 512) (o : Fin 5632) (code : Fin 2048 → EReal) (W : Fin 2048 → EReal) (scale ws l : EReal)
    (h0 : ∀ d, x0 (ix3 i s d) = code d) (h2 : ∀ d, x2 (ix2 d o) = W d) (h1 : x1 (ix2 i s) = scale) (h3 : x3 (ix1 o) = ws) (h4 : x4 (ix3 i s o) = l) :
    out0_5 x0 x1 x2 x3 x4 (ix3 i s o) = (∑ d : Fin 2048, code d * W d) * scale * ws + l := by
  rw [rout5_at, h1, h3, h4]
  simp only [h0, h2]

end Body

end Cert.Mix

end
-- ==== Proof.RefArray.lean ====
/- The reference's four results after its run, at an index. -/
module

public import proofs.«01_k».proof.Proof.RefBlocks
public import proofs.«01_k».proof.Proof.RefBody

@[expose] public section

noncomputable section

namespace Cert.Mix

open Idealize.ShloMosaic Idealize.ShloMosaic.TcCoe Idealize.SL.Sem Cert.ReferenceIdeal Cert.ReferenceIdeal.Gen
open Idealize.ShloMosaic.Pipeline (Dat)

variable (m : (ℓ : Loc nD τ sig) → Buf (Elt Ideal) ℓ) (c : Dev nD)

/-! ## The arrays -/

theorem rcodes_after (t : Fin cfg0.N) (i : Fin 24) (s : Fin 512) (d : Fin 2048) : (dats m 0 c).after 6 t (ix3 i s d) = codeAt (bX m c) i s d := by
  rw [after0_6]
  exact (rout6_at _ _ _ _ _ _).trans (rblock0 m c t i s d)

theorem rout_after (hI : RefInRange m c) (t : Fin cfg0.N) (i : Fin 24) (s : Fin 512) (o : Fin 5632) : (dats m 0 c).after 5 t (ix3 i s o)
    = outAt (bX m c) (bW m c) (bWs m c) (bR m c) (bRb m c) (bC m c) (bA m c) (bB m c) i s o := by
  rw [after0_5]
  exact rout5_of _ _ _ _ _ i s o (codeAt (bX m c) i s) (fun d => bW m c d o) (scaleAt (bX m c) i s) (bWs m c o) (loraAt m c i s o)
    (fun d => rblock0 m c t i s d) (fun d => rblock2 m c t d o) (rblock1 m c t i s) (rblock3 m c t o) (rblock4 m c hI t i s o)

theorem rcodes_array : (dats m 0 c).arrAt 6 cfg0.N = fun j : S24x512x2048.Idx => codeAt (bX m c) (j 0) (j 1) (j 2) := by
  refine (dats m 0 c).arrAt_eq_of_covers 6 _ (by decide +kernel) fun t hf y => ?_
  have h : ((win0_6.blk t).view.emb y : S24x512x2048.Idx) = ix3 (y 0) (y 1) (y 2) := by
    blk_ext [start6]
  have hy : (y : S24x512x2048.Idx) = ix3 (y 0) (y 1) (y 2) := by
    blk_ext
  exact ((congrArg ((dats m 0 c).after 6 t) hy).trans (rcodes_after m c t (y 0) (y 1) (y 2))).trans
    (congrArg (fun j : S24x512x2048.Idx => codeAt (bX m c) (j 0) (j 1) (j 2)) h).symm

theorem rout_array (hI : RefInRange m c) : (dats m 0 c).arrAt 5 cfg0.N = fun j : S24x512x5632.Idx =>
    outAt (bX m c) (bW m c) (bWs m c) (bR m c) (bRb m c) (bC m c) (bA m c) (bB m c) (j 0) (j 1) (j 2) := by
  refine (dats m 0 c).arrAt_eq_of_covers 5 _ (by decide +kernel) fun t hf y => ?_
  have h : ((win0_5.blk t).view.emb y : S24x512x5632.Idx) = ix3 (y 0) (y 1) (y 2) := by
    blk_ext [start5]
  have hy : (y : S24x512x5632.Idx) = ix3 (y 0) (y 1) (y 2) := by
    blk_ext
  exact ((congrArg ((dats m 0 c).after 5 t) hy).trans (rout_after m c hI t (y 0) (y 1) (y 2))).trans
    (congrArg (fun j : S24x512x5632.Idx =>
      outAt (bX m c) (bW m c) (bWs m c) (bR m c) (bRb m c) (bC m c) (bA m c) (bB m c) (j 0) (j 1) (j 2)) h).symm

theorem rgates_array (hI : RefInRange m c) : (V m c main_v43 : FVec Ideal S24x512x2 .f32)
    = fun j => gateAt (bX m c) (bR m c) (bRb m c) (bC m c) (j 0) (j 1) (j 2) := by
  funext j
  rw [eq_ix3 j]
  exact gates_buffer m c hI (j 0) (j 1) (j 2)

theorem rscale_array : (V m c main_v16 : FVec Ideal S24x512 .f32) = fun j => scaleAt (bX m c) (j 0) (j 1) := by
  funext j
  rw [eq_ix2 j]
  exact scale_buffer m c (j 0) (j 1)

end Cert.Mix

end
-- ==== Proof.RefRun.lean ====
/- The reference's run: its four results as functions of its arguments, the arguments unchanged. -/
module

public import proofs.«01_k».proof.Proof.RefArray

@[expose] public section

noncomputable section

namespace Cert.Mix

open Idealize.ShloMosaic Idealize.ShloMosaic.TcCoe Idealize.SL.Sem Cert.ReferenceIdeal Cert.ReferenceIdeal.Gen
open Idealize.ShloMosaic.Pipeline (Dat)

variable (m : (ℓ : Loc nD τ sig) → Buf (Elt Ideal) ℓ) (ρ : Dev nD → PrngReg)

theorem ref_results (hI : ∀ c, RefInRange m c) :
    θ_run (defs (F := Ideal)) (onTc (τ := τ) (main (F := Ideal))) ⟨m, fun _ => 0, ρ⟩ (fun r => ∀ c : Dev nD,
      r.2.mem ((c.tc : Thread nD τ).loc main_v57_0) = (fun j : S24x512x5632.Idx =>
        outAt (bX m c) (bW m c) (bWs m c) (bR m c) (bRb m c) (bC m c) (bA m c) (bB m c) (j 0) (j 1) (j 2))
      ∧ r.2.mem ((c.tc : Thread nD τ).loc main_v43) = (fun j : S24x512x2.Idx => gateAt (bX m c) (bR m c) (bRb m c) (bC m c) (j 0) (j 1) (j 2))
      ∧ r.2.mem ((c.tc : Thread nD τ).loc main_v57_1) = (fun j : S24x512x2048.Idx => codeAt (bX m c) (j 0) (j 1) (j 2))
      ∧ r.2.mem ((c.tc : Thread nD τ).loc main_v16) = (fun j : S24x512.Idx => scaleAt (bX m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(Value.post5 m r h c).trans (rout_array m c (hI c)),
      ((h c).2 main_v43 (Pipeline.mem_restRefs_of main_v43 (by decide) (by decide))).trans (rgates_array m c (hI c)),
      (Value.post6 m r h c).trans (rcodes_array m c),
      ((h c).1 1).trans (((dats m 0 c).arrAt_in 1 rfl _).trans ((A_eq m c 1).trans (rscale_array m c))),
      Value.kept_main_arg0 m r h c, Value.kept_main_arg1 m r h c, Value.kept_main_arg2 m r h c, Value.kept_main_arg3 m r h c,
      Value.kept_main_arg4 m r h c, Value.kept_main_arg5 m r h c, Value.kept_main_arg6 m r h c, Value.kept_main_arg7 m r h c⟩) (run_main m ρ)

end Cert.Mix

end
-- ==== Proof.Equal.lean ====
/- The two programs' results are equal on equal arguments that meet the precondition. -/
module

public import proofs.«01_k».proof.Proof.Precondition
public import proofs.«01_k».proof.Proof.KernelRun
public import proofs.«01_k».proof.Proof.RefRun

@[expose] public section

noncomputable section

namespace Cert.Mix

open Idealize.ShloMosaic Idealize.ShloMosaic.TcCoe Idealize.SL.Sem
open Cert.Mix.Kern

theorem algebraic : Cert.algebraic_KernelIdeal_ReferenceIdeal_pre_finite_and_in_range (hKernelIdeal := Cert.KernelIdeal.Gen.facts)
    (hReferenceIdeal := Cert.ReferenceIdeal.Gen.facts) (hPre_finite_and_in_range := Cert.Pre_finite_and_in_range.Gen.facts) := by
  intro m g m' g' hpre hargs
  have hX : ∀ c, Bounded (aX m c) := fun c => bounded_of_pre m Cert.Pre_finite_and_in_range.Gen.facts hpre c
  have hI : ∀ c, InRange m c := fun c => range_of_pre m Cert.Pre_finite_and_in_range.Gen.facts hpre c
  have e0 : ∀ c, bX m' c = aX m c := fun c => funext fun i => funext fun s => funext fun d => congrFun (hargs c).1 (ix3 i s d)
  have e1 : ∀ c, bW m' c = aW m c := fun c => funext fun d => funext fun o => congrFun (hargs c).2.1 (ix2 d o)
  have e2 : ∀ c, bWs m' c = aWs m c := fun c => funext fun o => congrFun (hargs c).2.2.1 (ix1 o)
  have e3 : ∀ c, bR m' c = aR m c := fun c => funext fun d => funext fun e => congrFun (hargs c).2.2.2.1 (ix2 d e)
  have e4 : ∀ c, bRb m' c = aRb m c := fun c => funext fun e => congrFun (hargs c).2.2.2.2.1 (ix1 e)
  have e5 : ∀ c i s k, rIdx m' c (ix3 i s k) = kIdx m c (ix3 i s k) := fun c i s k => congrFun (hargs c).2.2.2.2.2.1 (ix3 i s k)
  have e6 : ∀ c, bA m' c = aA m c := fun c => funext fun e => funext fun d => funext fun q => congrFun (hargs c).2.2.2.2.2.2.1 (ix3 e d q)
  have e7 : ∀ c, bB m' c = aB m c := fun c => funext fun e => funext fun q => funext fun o => congrFun (hargs c).2.2.2.2.2.2.2 (ix3 e q o)
  have e5' : ∀ c, bC m' c = aC m c := fun c => funext fun i => funext fun s => funext fun k => congrArg expert (e5 c i s k)
  have hI' : ∀ c, RefInRange m' c := fun c i s k => by
    rw [e5 c i s k]
    exact hI c i s k
  refine ⟨_, _, _, _, results m g hX hI, ?_⟩
  refine (θ_run _ _ _).mono (fun r h c => ?_) (ref_results m' g' hI')
  obtain ⟨h0, h1, h2, h3, h4⟩ := h c
  rw [e0, e1, e2, e3, e4, e5', e6, e7] at h0
  rw [e0, e3, e4, e5'] at h1
  rw [e0] at h2 h3
  exact ⟨h0, h1, h2, h3, h4⟩

end Cert.Mix

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_finite_and_in_range
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The three frames, the link from the program as printed to its ideal reading, and the equality with the reference. -/
theorem claim : Cert.Claim :=
  ⟨Cert.Kernel.Gen.facts, Cert.KernelIdeal.Gen.facts, Cert.ReferenceIdeal.Gen.facts, Cert.Pre_finite_and_in_range.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, Cert.Mix.algebraic⟩

end Cert.Proof

end
